-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_temp" .f32 0x3F1A3785#32 ((8388608 / 13925089 : ℝ) : EReal)
  ∧ IdealRules.named_const.Statement Cert.KernelIdeal.κ "mask" .f32 0xF149F2CA#32 ⊥

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v114)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_gate : Cert.Pre_finite_gate.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ preserves_Kernel_KernelIdeal
    ∧ algebraic_KernelIdeal_ReferenceIdeal_pre_finite_gate (hKernelIdeal := hKernelIdeal) (hReferenceIdeal := hReferenceIdeal) (hPre_finite_gate := hPre_finite_gate)
-- ==== Pre_finite_gate.lean ====
abbrev S2x4096x768 : Shape := ⟨3, ![2, 4096, 768]⟩
abbrev S64x768 : Shape := ⟨2, ![64, 768]⟩
abbrev S64x3072x768 : Shape := ⟨3, ![64, 3072, 768]⟩
abbrev S64x3072 : Shape := ⟨2, ![64, 3072]⟩
abbrev S64x768x3072 : Shape := ⟨3, ![64, 768, 3072]⟩
abbrev S8192 : Shape := ⟨1, ![8192]⟩
abbrev S_ : Shape := ⟨0, ![]⟩

class Facts : Prop where
  bcast_S_S2x4096x768 : S_.BroadcastsInDim S2x4096x768 (![] : Fin 0 → Fin S2x4096x768.rank)
  reducesTo_S2x4096x768_S_d0_1_2 : S2x4096x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S2x4096x768 .f32) (main_arg1 : FVec F S64x768 .f32) (main_arg2 : FVec F S64x3072x768 .f32) (main_arg3 : FVec F S64x3072 .f32) (main_arg4 : FVec F S64x768x3072 .f32) (main_arg5 : FVec F S64x768 .f32) (main_arg6 : FVec F S8192 .f32) : IVec S_ 1 :=
  let main_v0 : FVec F S2x4096x768 .f32 := Host.absf main_arg0
  let main_cst : FVec F S_ .f32 := constant S_ .f32 0x7F800000#32
  let main_v1 : FVec F S2x4096x768 .f32 := broadcastInDim S2x4096x768 ![] bcast_S_S2x4096x768 main_cst
  let main_v2 : IVec S2x4096x768 1 := cmpf .olt main_v0 main_v1
  let main_c : IVec S_ 1 := constantI S_ 1 1#1
  let main_v3 : IVec S_ 1 := (fun x v => Host.reduce IntOp.andi x v reducesTo_S2x4096x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  main_v8
-- ==== Kernel.lean ====
abbrev S2x4096x768 : Shape := ⟨3, ![2, 4096, 768]⟩
abbrev S64x768 : Shape := ⟨2, ![64, 768]⟩
abbrev S64x3072x768 : Shape := ⟨3, ![64, 3072, 768]⟩
abbrev S64x3072 : Shape := ⟨2, ![64, 3072]⟩
abbrev S64x768x3072 : Shape := ⟨3, ![64, 768, 3072]⟩
abbrev S8192 : Shape := ⟨1, ![8192]⟩
abbrev S8192x768 : Shape := ⟨2, ![8192, 768]⟩
abbrev S8x1024x768 : Shape := ⟨3, ![8, 1024, 768]⟩
abbrev S8x1024x1 : Shape := ⟨3, ![8, 1024, 1]⟩
abbrev S1x64 : Shape := ⟨2, ![1, 64]⟩
abbrev S1x1 : Shape := ⟨2, ![1, 1]⟩
abbrev S1x1024x768 : Shape := ⟨3, ![1, 1024, 768]⟩
abbrev S1x1024x1 : Shape := ⟨3, ![1, 1024, 1]⟩
abbrev S1024x768 : Shape := ⟨2, ![1024, 768]⟩
abbrev S1024x64 : Shape := ⟨2, ![1024, 64]⟩
abbrev S1024 : Shape := ⟨1, ![1024]⟩
abbrev S1024x1 : Shape := ⟨2, ![1024, 1]⟩
abbrev S1024x1024 : Shape := ⟨2, ![1024, 1024]⟩
abbrev S64 : Shape := ⟨1, ![64]⟩
abbrev S1 : Shape := ⟨1, ![1]⟩
abbrev S_ : Shape := ⟨0, ![]⟩
abbrev S32768 : Shape := ⟨1, ![32768]⟩
abbrev S8192x1 : Shape := ⟨2, ![8192, 1]⟩
abbrev S32768x1 : Shape := ⟨2, ![32768, 1]⟩
abbrev S32768x768 : Shape := ⟨2, ![32768, 768]⟩
abbrev S64x512x768 : Shape := ⟨3, ![64, 512, 768]⟩
abbrev S64x512 : Shape := ⟨2, ![64, 512]⟩
abbrev S64x1x1x3072 : Shape := ⟨4, ![64, 1, 1, 3072]⟩
abbrev S64x1x768 : Shape := ⟨3, ![64, 1, 768]⟩
abbrev S64x1x512 : Shape := ⟨3, ![64, 1, 512]⟩
abbrev S1x512x768 : Shape := ⟨3, ![1, 512, 768]⟩
abbrev S1x3072x768 : Shape := ⟨3, ![1, 3072, 768]⟩
abbrev S1x1x1x3072 : Shape := ⟨4, ![1, 1, 1, 3072]⟩
abbrev S1x768x3072 : Shape := ⟨3, ![1, 768, 3072]⟩
abbrev S1x1x768 : Shape := ⟨3, ![1, 1, 768]⟩
abbrev S1x1x512 : Shape := ⟨3, ![1, 1, 512]⟩
abbrev S512x768 : Shape := ⟨2, ![512, 768]⟩
abbrev S3072x768 : Shape := ⟨2, ![3072, 768]⟩
abbrev S512x3072 : Shape := ⟨2, ![512, 3072]⟩
abbrev S3072 : Shape := ⟨1, ![3072]⟩
abbrev S1x3072 : Shape := ⟨2, ![1, 3072]⟩
abbrev S768x3072 : Shape := ⟨2, ![768, 3072]⟩
abbrev S768 : Shape := ⟨1, ![768]⟩
abbrev S1x768 : Shape := ⟨2, ![1, 768]⟩
abbrev S512 : Shape := ⟨1, ![512]⟩
abbrev S512x1 : Shape := ⟨2, ![512, 1]⟩

abbrev nBuf : Space → Nat
  | .hbm => 195
  | .vmem => 35
  | .smem => 0
  | _ => 0

abbrev hbmTy0_0 (i : Nat) : BufTy := match i % 128 with
  | 0 => ⟨S2x4096x768, .f32⟩
  | 1 => ⟨S64x768, .f32⟩
  | 2 => ⟨S64x3072x768, .f32⟩
  | 3 => ⟨S64x3072, .f32⟩
  | 4 => ⟨S64x768x3072, .f32⟩
  | 5 => ⟨S64x768, .f32⟩
  | 6 => ⟨S8192, .f32⟩
  | 7 => ⟨S8192x768, .f32⟩
  | 8 => ⟨S8x1024x768, .f32⟩
  | 9 => ⟨S8x1024x1, .f32⟩
  | 10 => ⟨S8x1024x1, .i32⟩
  | 11 => ⟨S8x1024x1, .i32⟩
  | 12 => ⟨S8x1024x1, .f32⟩
  | 13 => ⟨S8x1024x1, .f32⟩
  | 14 => ⟨S1x64, .f32⟩
  | 15 => ⟨S1x64, .f32⟩
  | 16 => ⟨S1x64, .f32⟩
  | 17 => ⟨S1x64, .f32⟩
  | 18 => ⟨S1x64, .f32⟩
  | 19 => ⟨S1x64, .f32⟩
  | 20 => ⟨S1x1, .f32⟩
  | 21 => ⟨S8192, .i32⟩
  | 22 => ⟨S8192, .i32⟩
  | 23 => ⟨S8192, .f32⟩
  | 24 => ⟨S8192, .f32⟩
  | 25 => ⟨S_, .f32⟩
  | 26 => ⟨S_, .f32⟩
  | 27 => ⟨S_, .f32⟩
  | 28 => ⟨S_, .f32⟩
  | 29 => ⟨S64, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S64, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S64, .f32⟩
  | 52 => ⟨S_, .f32⟩
  | 53 => ⟨S64, .f32⟩
  | 54 => ⟨S64, .f32⟩
  | 55 => ⟨S64, .f32⟩
  | 56 => ⟨S_, .f32⟩
  | 57 => ⟨S64, .f32⟩
  | 58 => ⟨S64, .f32⟩
  | 59 => ⟨S64, .f32⟩
  | 60 => ⟨S_, .f32⟩
  | 61 => ⟨S_, .f32⟩
  | 62 => ⟨S_, .f32⟩
  | 63 => ⟨S_, .f32⟩
  | 64 => ⟨S64, .f32⟩
  | 65 => ⟨S_, .i32⟩
  | 66 => ⟨S_, .f32⟩
  | 67 => ⟨S_, .f32⟩
  | 68 => ⟨S1, .f32⟩
  | 69 => ⟨S_, .f32⟩
  | 70 => ⟨S1, .f32⟩
  | 71 => ⟨S1, .f32⟩
  | 72 => ⟨S64, .f32⟩
  | 73 => ⟨S64, .f32⟩
  | 74 => ⟨S64, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .i1⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S8192, .i32⟩
  | 98 => ⟨S_, .i32⟩
  | 99 => ⟨S32768, .i32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S8192x1, .i32⟩
  | 108 => ⟨S32768, .i32⟩
  | 109 => ⟨S_, .i32⟩
  | 110 => ⟨S8192, .i32⟩
  | 111 => ⟨S8192, .i1⟩
  | 112 => ⟨S_, .i32⟩
  | 113 => ⟨S8192, .i32⟩
  | 114 => ⟨S8192, .i32⟩
  | 115 => ⟨S8192, .i32⟩
  | 116 => ⟨S8192x1, .i32⟩
  | 117 => ⟨S32768, .i32⟩
  | 118 => ⟨S_, .f32⟩
  | 119 => ⟨S32768, .f32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S2x4096x768, .f32⟩

abbrev hbmTy0_1 (i : Nat) : BufTy := match i % 128 with
  | 0 => ⟨S32768, .f32⟩
  | 1 => ⟨S_, .i32⟩
  | 2 => ⟨S8192, .i32⟩
  | 3 => ⟨S8192, .i1⟩
  | 4 => ⟨S_, .i32⟩
  | 5 => ⟨S8192, .i32⟩
  | 6 => ⟨S8192, .i32⟩
  | 7 => ⟨S8192, .i32⟩
  | 8 => ⟨S8192x1, .i32⟩
  | 9 => ⟨S32768, .f32⟩
  | 10 => ⟨S8192x768, .bf16⟩
  | 11 => ⟨S_, .i32⟩
  | 12 => ⟨S32768, .i32⟩
  | 13 => ⟨S32768, .i1⟩
  | 14 => ⟨S_, .i32⟩
  | 15 => ⟨S32768, .i32⟩
  | 16 => ⟨S32768, .i32⟩
  | 17 => ⟨S32768, .i32⟩
  | 18 => ⟨S32768x1, .i32⟩
  | 19 => ⟨S32768x768, .bf16⟩
  | 20 => ⟨S64x512x768, .bf16⟩
  | 21 => ⟨S64x512, .f32⟩
  | 22 => ⟨S64x1x1x3072, .f32⟩
  | 23 => ⟨S64x1x768, .f32⟩
  | 24 => ⟨S64x1x512, .f32⟩
  | 25 => ⟨S64x512x768, .bf16⟩
  | 26 => ⟨S32768x768, .bf16⟩
  | 27 => ⟨S_, .i32⟩
  | 28 => ⟨S8192, .i32⟩
  | 29 => ⟨S8192, .i1⟩
  | 30 => ⟨S8192x1, .i1⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S8192x768, .bf16⟩
  | 40 => ⟨S8192x768, .f32⟩
  | 41 => ⟨S_, .f32⟩
  | 42 => ⟨S_, .f32⟩
  | 43 => ⟨S8192x768, .i1⟩
  | 44 => ⟨S8192x768, .f32⟩
  | 45 => ⟨S8192x768, .f32⟩
  | 46 => ⟨S_, .i32⟩
  | 47 => ⟨S8192, .i32⟩
  | 48 => ⟨S8192, .i1⟩
  | 49 => ⟨S8192x1, .i1⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S8192x768, .bf16⟩
  | 59 => ⟨S8192x768, .f32⟩
  | 60 => ⟨S_, .f32⟩
  | 61 => ⟨S_, .f32⟩
  | 62 => ⟨S8192x768, .i1⟩
  | 63 => ⟨S8192x768, .f32⟩
  | 64 => ⟨S8192x768, .f32⟩
  | 65 => ⟨S8192x768, .f32⟩
  | 66 => ⟨S2x4096x768, .f32⟩
  | _ => ⟨S2x4096x768, .f32⟩

abbrev hbmTy (i : Nat) : BufTy := match i / 128 with
  | 0 => hbmTy0_0 i
  | 1 => hbmTy0_1 i
  | _ => ⟨S2x4096x768, .f32⟩

abbrev bufTy : (tb : Table) → Fin (tcTables nBuf tb) → BufTy
  | .hbm, ⟨i, _⟩ => hbmTy i
  | .local _ .vmem, ⟨0, _⟩ => ⟨S1x1024x768, .f32⟩
  | .local _ .vmem, ⟨1, _⟩ => ⟨S1x1024x768, .f32⟩
  | .local _ .vmem, ⟨2, _⟩ => ⟨S64x768, .f32⟩
  | .local _ .vmem, ⟨3, _⟩ => ⟨S1x1024x1, .f32⟩
  | .local _ .vmem, ⟨4, _⟩ => ⟨S1x1024x1, .f32⟩
  | .local _ .vmem, ⟨5, _⟩ => ⟨S1x1024x1, .i32⟩
  | .local _ .vmem, ⟨6, _⟩ => ⟨S1x1024x1, .i32⟩
  | .local _ .vmem, ⟨7, _⟩ => ⟨S1x1024x1, .i32⟩
  | .local _ .vmem, ⟨8, _⟩ => ⟨S1x1024x1, .i32⟩
  | .local _ .vmem, ⟨9, _⟩ => ⟨S1x1024x1, .f32⟩
  | .local _ .vmem, ⟨10, _⟩ => ⟨S1x1024x1, .f32⟩
  | .local _ .vmem, ⟨11, _⟩ => ⟨S1x1024x1, .f32⟩
  | .local _ .vmem, ⟨12, _⟩ => ⟨S1x1024x1, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x1, .f32⟩
  | .local _ .vmem, ⟨20, _⟩ => ⟨S1x512x768, .bf16⟩
  | .local _ .vmem, ⟨21, _⟩ => ⟨S1x512x768, .bf16⟩
  | .local _ .vmem, ⟨22, _⟩ => ⟨S1x3072x768, .f32⟩
  | .local _ .vmem, ⟨23, _⟩ => ⟨S1x3072x768, .f32⟩
  | .local _ .vmem, ⟨24, _⟩ => ⟨S1x1x1x3072, .f32⟩
  | .local _ .vmem, ⟨25, _⟩ => ⟨S1x1x1x3072, .f32⟩
  | .local _ .vmem, ⟨26, _⟩ => ⟨S1x768x3072, .f32⟩
  | .local _ .vmem, ⟨27, _⟩ => ⟨S1x768x3072, .f32⟩
  | .local _ .vmem, ⟨28, _⟩ => ⟨S1x1x768, .f32⟩
  | .local _ .vmem, ⟨29, _⟩ => ⟨S1x1x768, .f32⟩
  | .local _ .vmem, ⟨30, _⟩ => ⟨S1x1x512, .f32⟩
  | .local _ .vmem, ⟨31, _⟩ => ⟨S1x1x512, .f32⟩
  | .local _ .vmem, ⟨32, _⟩ => ⟨S1x512x768, .bf16⟩
  | .local _ .vmem, ⟨33, _⟩ => ⟨S1x512x768, .bf16⟩
  | .local _ .vmem, ⟨34, _⟩ => ⟨S512x768, .f32⟩
  | _, _ => ⟨S2x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev main_v3_7 : Ref sig .tc := ⟨.hbm, 17, rfl⟩
abbrev main_v3_8 : Ref sig .tc := ⟨.hbm, 18, rfl⟩
abbrev main_v3_9 : Ref sig .tc := ⟨.hbm, 19, rfl⟩
abbrev main_v3_10 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_v19 : Ref sig .tc := ⟨.hbm, 43, rfl⟩
abbrev main_cst_6 : Ref sig .tc := ⟨.hbm, 44, rfl⟩
abbrev main_v20 : Ref sig .tc := ⟨.hbm, 45, rfl⟩
abbrev main_v21 : Ref sig .tc := ⟨.hbm, 46, rfl⟩
abbrev main_cst_7 : Ref sig .tc := ⟨.hbm, 47, rfl⟩
abbrev main_v22 : Ref sig .tc := ⟨.hbm, 48, rfl⟩
abbrev main_cst_8 : Ref sig .tc := ⟨.hbm, 49, rfl⟩
abbrev main_v23 : Ref sig .tc := ⟨.hbm, 50, rfl⟩
abbrev main_v24 : Ref sig .tc := ⟨.hbm, 51, rfl⟩
abbrev main_cst_9 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_10 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_11 : Ref sig .tc := ⟨.hbm, 60, rfl⟩
abbrev main_v31 : Ref sig .tc := ⟨.hbm, 61, rfl⟩
abbrev main_cst_12 : Ref sig .tc := ⟨.hbm, 62, rfl⟩
abbrev main_v32 : Ref sig .tc := ⟨.hbm, 63, rfl⟩
abbrev main_v33 : Ref sig .tc := ⟨.hbm, 64, rfl⟩
abbrev main_c : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_cst_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_cst_1 : Ref sig .tc := ⟨.hbm, 76, rfl⟩
abbrev main_call0_v8 : Ref sig .tc := ⟨.hbm, 77, rfl⟩
abbrev main_call0_cst_2 : Ref sig .tc := ⟨.hbm, 78, rfl⟩
abbrev main_call0_v9 : Ref sig .tc := ⟨.hbm, 79, rfl⟩
abbrev main_call0_v10 : Ref sig .tc := ⟨.hbm, 80, rfl⟩
abbrev main_call0_cst_3 : Ref sig .tc := ⟨.hbm, 81, rfl⟩
abbrev main_call0_v11 : Ref sig .tc := ⟨.hbm, 82, rfl⟩
abbrev main_call0_cst_4 : Ref sig .tc := ⟨.hbm, 83, rfl⟩
abbrev main_call0_call0_v0 : Ref sig .tc := ⟨.hbm, 84, rfl⟩
abbrev main_v34 : Ref sig .tc := ⟨.hbm, 85, rfl⟩
abbrev main_cst_13 : Ref sig .tc := ⟨.hbm, 86, rfl⟩
abbrev main_v35 : Ref sig .tc := ⟨.hbm, 87, rfl⟩
abbrev main_cst_14 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_cst_15 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_c_16 : Ref sig .tc := ⟨.hbm, 98, rfl⟩
abbrev main_v44 : Ref sig .tc := ⟨.hbm, 99, rfl⟩
abbrev main_c_17 : Ref sig .tc := ⟨.hbm, 100, rfl⟩
abbrev main_v45 : Ref sig .tc := ⟨.hbm, 101, rfl⟩
abbrev main_v46 : Ref sig .tc := ⟨.hbm, 102, rfl⟩
abbrev main_c_18 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_c_19 : Ref sig .tc := ⟨.hbm, 109, rfl⟩
abbrev main_v52 : Ref sig .tc := ⟨.hbm, 110, rfl⟩
abbrev main_v53 : Ref sig .tc := ⟨.hbm, 111, rfl⟩
abbrev main_c_20 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_cst_21 : Ref sig .tc := ⟨.hbm, 118, rfl⟩
abbrev main_v59 : Ref sig .tc := ⟨.hbm, 119, rfl⟩
abbrev main_c_22 : Ref sig .tc := ⟨.hbm, 120, rfl⟩
abbrev main_v60 : Ref sig .tc := ⟨.hbm, 121, rfl⟩
abbrev main_v61 : Ref sig .tc := ⟨.hbm, 122, rfl⟩
abbrev main_c_23 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_c_24 : Ref sig .tc := ⟨.hbm, 129, rfl⟩
abbrev main_v67 : Ref sig .tc := ⟨.hbm, 130, rfl⟩
abbrev main_v68 : Ref sig .tc := ⟨.hbm, 131, rfl⟩
abbrev main_c_25 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_c_26 : Ref sig .tc := ⟨.hbm, 139, rfl⟩
abbrev main_v75 : Ref sig .tc := ⟨.hbm, 140, rfl⟩
abbrev main_v76 : Ref sig .tc := ⟨.hbm, 141, rfl⟩
abbrev main_c_27 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_c_28 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_c_29 : Ref sig .tc := ⟨.hbm, 159, rfl⟩
abbrev main_v92 : Ref sig .tc := ⟨.hbm, 160, rfl⟩
abbrev main_v93 : Ref sig .tc := ⟨.hbm, 161, rfl⟩
abbrev main_c_30 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_cst_31 : Ref sig .tc := ⟨.hbm, 169, rfl⟩
abbrev main_call1_v0 : Ref sig .tc := ⟨.hbm, 170, rfl⟩
abbrev main_call1_v1 : Ref sig .tc := ⟨.hbm, 171, rfl⟩
abbrev main_call1_v2 : Ref sig .tc := ⟨.hbm, 172, rfl⟩
abbrev main_v100 : Ref sig .tc := ⟨.hbm, 173, rfl⟩
abbrev main_c_32 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_c_33 : Ref sig .tc := ⟨.hbm, 178, rfl⟩
abbrev main_v104 : Ref sig .tc := ⟨.hbm, 179, rfl⟩
abbrev main_v105 : Ref sig .tc := ⟨.hbm, 180, rfl⟩
abbrev main_c_34 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_cst_35 : Ref sig .tc := ⟨.hbm, 188, rfl⟩
abbrev main_call2_v0 : Ref sig .tc := ⟨.hbm, 189, rfl⟩
abbrev main_call2_v1 : Ref sig .tc := ⟨.hbm, 190, rfl⟩
abbrev main_call2_v2 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨2, ![64, 1], ![false, false]⟩

def k1_cond3 (i : grid1.Coords) : BitVec 1 :=
  let arg1 : BitVec 32 := BitVec.ofNat 32 (i 1).val
  let c0_i32_20 : BitVec 32 := 0#32
  let v33 : BitVec 1 := Scalar.cmpi .eq arg1 c0_i32_20
  let v34 : BitVec 32 := Scalar.extui v33
  let c0_i32_21 : BitVec 32 := 0#32
  let v35 : BitVec 1 := Scalar.cmpi .ne v34 c0_i32_21
  v35

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x3072x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x768x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x512x768 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== KernelIdeal.lean ====
variable {F : FTy → Type} [FloatOps F] [Named F]
def κ : String → Option EReal := fun
  | "inv_temp" => some ((8388608 / 13925089 : ℝ) : EReal)
  | "mask" => some ⊥
  | _ => none
-- ==== ReferenceIdeal.lean ====
abbrev S2x4096x768 : Shape := ⟨3, ![2, 4096, 768]⟩
abbrev S64x768 : Shape := ⟨2, ![64, 768]⟩
abbrev S64x3072x768 : Shape := ⟨3, ![64, 3072, 768]⟩
abbrev S64x3072 : Shape := ⟨2, ![64, 3072]⟩
abbrev S64x768x3072 : Shape := ⟨3, ![64, 768, 3072]⟩
abbrev S8192 : Shape := ⟨1, ![8192]⟩
abbrev S8192x768 : Shape := ⟨2, ![8192, 768]⟩
abbrev S768x64 : Shape := ⟨2, ![768, 64]⟩
abbrev S8192x64 : Shape := ⟨2, ![8192, 64]⟩
abbrev S_ : Shape := ⟨0, ![]⟩
abbrev S8192x1 : Shape := ⟨2, ![8192, 1]⟩
abbrev S64 : Shape := ⟨1, ![64]⟩
abbrev S8192x2 : Shape := ⟨2, ![8192, 2]⟩
abbrev S1x64 : Shape := ⟨2, ![1, 64]⟩
abbrev S1 : Shape := ⟨1, ![1]⟩
abbrev S64x3072x8192 : Shape := ⟨3, ![64, 3072, 8192]⟩
abbrev S64x8192x3072 : Shape := ⟨3, ![64, 8192, 3072]⟩
abbrev S64x1x3072 : Shape := ⟨3, ![64, 1, 3072]⟩
abbrev S64x8192x768 : Shape := ⟨3, ![64, 8192, 768]⟩
abbrev S64x1x768 : Shape := ⟨3, ![64, 1, 768]⟩
abbrev S64x8192 : Shape := ⟨2, ![64, 8192]⟩
abbrev S64x8192x1 : Shape := ⟨3, ![64, 8192, 1]⟩

abbrev nBuf : Space → Nat
  | .hbm => 224
  | .vmem => 0
  | .smem => 0
  | _ => 0

abbrev hbmTy0_0 (i : Nat) : BufTy := match i % 128 with
  | 0 => ⟨S2x4096x768, .f32⟩
  | 1 => ⟨S64x768, .f32⟩
  | 2 => ⟨S64x3072x768, .f32⟩
  | 3 => ⟨S64x3072, .f32⟩
  | 4 => ⟨S64x768x3072, .f32⟩
  | 5 => ⟨S64x768, .f32⟩
  | 6 => ⟨S8192, .f32⟩
  | 7 => ⟨S8192x768, .f32⟩
  | 8 => ⟨S768x64, .f32⟩
  | 9 => ⟨S8192x64, .f32⟩
  | 10 => ⟨S_, .f32⟩
  | 11 => ⟨S8192x64, .f32⟩
  | 12 => ⟨S8192x64, .f32⟩
  | 13 => ⟨S_, .f32⟩
  | 14 => ⟨S8192, .f32⟩
  | 15 => ⟨S_, .f32⟩
  | 16 => ⟨S8192, .f32⟩
  | 17 => ⟨S8192, .f32⟩
  | 18 => ⟨S8192x1, .f32⟩
  | 19 => ⟨S8192x64, .f32⟩
  | 20 => ⟨S8192x64, .f32⟩
  | 21 => ⟨S8192x64, .f32⟩
  | 22 => ⟨S_, .f32⟩
  | 23 => ⟨S8192, .f32⟩
  | 24 => ⟨S8192x1, .f32⟩
  | 25 => ⟨S8192x64, .f32⟩
  | 26 => ⟨S8192x64, .f32⟩
  | 27 => ⟨S_, .f32⟩
  | 28 => ⟨S8192x64, .f32⟩
  | 29 => ⟨S8192x64, .f32⟩
  | 30 => ⟨S8192x64, .f32⟩
  | 31 => ⟨S_, .f32⟩
  | 32 => ⟨S_, .f32⟩
  | 33 => ⟨S_, .f32⟩
  | 34 => ⟨S_, .f32⟩
  | 35 => ⟨S_, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S64, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S8192, .f32⟩
  | 55 => ⟨S8192x1, .f32⟩
  | 56 => ⟨S8192x64, .f32⟩
  | 57 => ⟨S8192x64, .f32⟩
  | 58 => ⟨S8192x64, .f32⟩
  | 59 => ⟨S_, .f32⟩
  | 60 => ⟨S8192, .f32⟩
  | 61 => ⟨S8192, .f32⟩
  | 62 => ⟨S8192, .f32⟩
  | 63 => ⟨S8192, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S8192, .f32⟩
  | 72 => ⟨S_, .f32⟩
  | 73 => ⟨S8192, .f32⟩
  | 74 => ⟨S8192, .f32⟩
  | 75 => ⟨S8192x1, .f32⟩
  | 76 => ⟨S8192x64, .f32⟩
  | 77 => ⟨S8192x64, .f32⟩
  | 78 => ⟨S8192x64, .f32⟩
  | 79 => ⟨S_, .f32⟩
  | 80 => ⟨S8192, .f32⟩
  | 81 => ⟨S8192x1, .f32⟩
  | 82 => ⟨S8192x64, .f32⟩
  | 83 => ⟨S8192x64, .f32⟩
  | 84 => ⟨S8192x2, .f32⟩
  | 85 => ⟨S8192x2, .i32⟩
  | 86 => ⟨S8192x1, .f32⟩
  | 87 => ⟨S8192, .f32⟩
  | 88 => ⟨S8192x1, .f32⟩
  | 89 => ⟨S8192, .f32⟩
  | 90 => ⟨S8192x1, .i32⟩
  | 91 => ⟨S8192, .i32⟩
  | 92 => ⟨S8192x1, .i32⟩
  | 93 => ⟨S8192, .i32⟩
  | 94 => ⟨S8192, .f32⟩
  | 95 => ⟨S8192, .f32⟩
  | 96 => ⟨S8192, .f32⟩
  | 97 => ⟨S8192x1, .i32⟩
  | 98 => ⟨S1x64, .i32⟩
  | 99 => ⟨S8192x64, .i32⟩
  | 100 => ⟨S8192x64, .i32⟩
  | 101 => ⟨S8192x64, .i1⟩
  | 102 => ⟨S8192x64, .i32⟩
  | 103 => ⟨S_, .i32⟩
  | 104 => ⟨S_, .i32⟩
  | 105 => ⟨S8192x64, .i32⟩
  | 106 => ⟨S_, .i32⟩
  | 107 => ⟨S8192x64, .i32⟩
  | 108 => ⟨S8192x64, .i1⟩
  | 109 => ⟨S8192x1, .f32⟩
  | 110 => ⟨S8192x64, .f32⟩
  | 111 => ⟨S8192x64, .f32⟩
  | 112 => ⟨S8192x64, .f32⟩
  | 113 => ⟨S8192x64, .f32⟩
  | 114 => ⟨S8192x64, .f32⟩
  | 115 => ⟨S8192x64, .f32⟩
  | 116 => ⟨S_, .f32⟩
  | 117 => ⟨S64, .f32⟩
  | 118 => ⟨S_, .f32⟩
  | 119 => ⟨S64, .f32⟩
  | 120 => ⟨S64, .f32⟩
  | 121 => ⟨S_, .f32⟩
  | 122 => ⟨S64, .f32⟩
  | 123 => ⟨S_, .f32⟩
  | 124 => ⟨S64, .f32⟩
  | 125 => ⟨S64, .f32⟩
  | 126 => ⟨S64, .f32⟩
  | 127 => ⟨S_, .f32⟩
  | _ => ⟨S2x4096x768, .f32⟩

abbrev hbmTy0_1 (i : Nat) : BufTy := match i % 128 with
  | 0 => ⟨S_, .f32⟩
  | 1 => ⟨S_, .f32⟩
  | 2 => ⟨S_, .f32⟩
  | 3 => ⟨S8192x1, .i32⟩
  | 4 => ⟨S1x64, .i32⟩
  | 5 => ⟨S8192x64, .i32⟩
  | 6 => ⟨S8192x64, .i32⟩
  | 7 => ⟨S8192x64, .i1⟩
  | 8 => ⟨S8192x64, .i32⟩
  | 9 => ⟨S_, .i32⟩
  | 10 => ⟨S_, .i32⟩
  | 11 => ⟨S8192x64, .i32⟩
  | 12 => ⟨S_, .i32⟩
  | 13 => ⟨S8192x64, .i32⟩
  | 14 => ⟨S8192x64, .i1⟩
  | 15 => ⟨S_, .f32⟩
  | 16 => ⟨S8192, .f32⟩
  | 17 => ⟨S8192, .f32⟩
  | 18 => ⟨S8192, .i1⟩
  | 19 => ⟨S8192x1, .i1⟩
  | 20 => ⟨S8192x1, .f32⟩
  | 21 => ⟨S8192x64, .f32⟩
  | 22 => ⟨S8192x64, .f32⟩
  | 23 => ⟨S8192x64, .f32⟩
  | 24 => ⟨S8192x64, .i1⟩
  | 25 => ⟨S8192x64, .i1⟩
  | 26 => ⟨S8192x64, .f32⟩
  | 27 => ⟨S8192x64, .f32⟩
  | 28 => ⟨S8192x64, .f32⟩
  | 29 => ⟨S_, .f32⟩
  | 30 => ⟨S64, .f32⟩
  | 31 => ⟨S_, .i32⟩
  | 32 => ⟨S_, .f32⟩
  | 33 => ⟨S_, .f32⟩
  | 34 => ⟨S1, .f32⟩
  | 35 => ⟨S_, .f32⟩
  | 36 => ⟨S1, .f32⟩
  | 37 => ⟨S1, .f32⟩
  | 38 => ⟨S64, .f32⟩
  | 39 => ⟨S64, .f32⟩
  | 40 => ⟨S64, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S64x3072x8192, .f32⟩
  | 64 => ⟨S64x8192x3072, .f32⟩
  | 65 => ⟨S64x1x3072, .f32⟩
  | 66 => ⟨S64x8192x3072, .f32⟩
  | 67 => ⟨S64x8192x3072, .f32⟩
  | 68 => ⟨S64x8192x3072, .f32⟩
  | 69 => ⟨S64x8192x3072, .f32⟩
  | 70 => ⟨S_, .f32⟩
  | 71 => ⟨S64x8192x3072, .f32⟩
  | 72 => ⟨S64x8192x3072, .f32⟩
  | 73 => ⟨S64x8192x3072, .f32⟩
  | 74 => ⟨S_, .f32⟩
  | 75 => ⟨S64x8192x3072, .f32⟩
  | 76 => ⟨S64x8192x3072, .f32⟩
  | 77 => ⟨S64x8192x3072, .f32⟩
  | 78 => ⟨S_, .f32⟩
  | 79 => ⟨S64x8192x3072, .f32⟩
  | 80 => ⟨S64x8192x3072, .f32⟩
  | 81 => ⟨S_, .f32⟩
  | 82 => ⟨S64x8192x3072, .f32⟩
  | 83 => ⟨S64x8192x3072, .f32⟩
  | 84 => ⟨S64x8192x3072, .f32⟩
  | 85 => ⟨S64x8192x768, .f32⟩
  | 86 => ⟨S64x1x768, .f32⟩
  | 87 => ⟨S64x8192x768, .f32⟩
  | 88 => ⟨S64x8192x768, .f32⟩
  | 89 => ⟨S64x8192, .f32⟩
  | 90 => ⟨S64x8192x1, .f32⟩
  | 91 => ⟨S64x8192x768, .f32⟩
  | 92 => ⟨S64x8192x768, .f32⟩
  | 93 => ⟨S_, .f32⟩
  | 94 => ⟨S8192x768, .f32⟩
  | 95 => ⟨S2x4096x768, .f32⟩
  | _ => ⟨S2x4096x768, .f32⟩

abbrev hbmTy (i : Nat) : BufTy := match i / 128 with
  | 0 => hbmTy0_0 i
  | 1 => hbmTy0_1 i
  | _ => ⟨S2x4096x768, .f32⟩

abbrev bufTy : (tb : Table) → Fin (tcTables nBuf tb) → BufTy
  | .hbm, ⟨i, _⟩ => hbmTy i
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_cst_11 : Ref sig .tc := ⟨.hbm, 48, rfl⟩
abbrev main_v29 : Ref sig .tc := ⟨.hbm, 49, rfl⟩
abbrev main_v30 : Ref sig .tc := ⟨.hbm, 50, rfl⟩
abbrev main_cst_12 : Ref sig .tc := ⟨.hbm, 51, rfl⟩
abbrev main_v31 : Ref sig .tc := ⟨.hbm, 52, rfl⟩
abbrev main_cst_13 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_14 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_15 : Ref sig .tc := ⟨.hbm, 64, rfl⟩
abbrev main_v41 : Ref sig .tc := ⟨.hbm, 65, rfl⟩
abbrev main_cst_16 : Ref sig .tc := ⟨.hbm, 66, rfl⟩
abbrev main_v42 : Ref sig .tc := ⟨.hbm, 67, rfl⟩
abbrev main_cst_17 : Ref sig .tc := ⟨.hbm, 68, rfl⟩
abbrev main_v43 : Ref sig .tc := ⟨.hbm, 69, rfl⟩
abbrev main_cst_18 : Ref sig .tc := ⟨.hbm, 70, rfl⟩
abbrev main_v44 : Ref sig .tc := ⟨.hbm, 71, rfl⟩
abbrev main_cst_19 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_20 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_values : Ref sig .tc := ⟨.hbm, 84, rfl⟩
abbrev main_indices : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_v66 : Ref sig .tc := ⟨.hbm, 102, rfl⟩
abbrev main_call1_call0_c : Ref sig .tc := ⟨.hbm, 103, rfl⟩
abbrev main_call1_call0_v0 : Ref sig .tc := ⟨.hbm, 104, rfl⟩
abbrev main_v67 : Ref sig .tc := ⟨.hbm, 105, rfl⟩
abbrev main_c : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_21 : Ref sig .tc := ⟨.hbm, 116, rfl⟩
abbrev main_v77 : Ref sig .tc := ⟨.hbm, 117, rfl⟩
abbrev main_cst_22 : Ref sig .tc := ⟨.hbm, 118, rfl⟩
abbrev main_v78 : Ref sig .tc := ⟨.hbm, 119, rfl⟩
abbrev main_v79 : Ref sig .tc := ⟨.hbm, 120, rfl⟩
abbrev main_cst_23 : Ref sig .tc := ⟨.hbm, 121, rfl⟩
abbrev main_v80 : Ref sig .tc := ⟨.hbm, 122, rfl⟩
abbrev main_cst_24 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_25 : Ref sig .tc := ⟨.hbm, 127, rfl⟩
abbrev main_v84 : Ref sig .tc := ⟨.hbm, 128, rfl⟩
abbrev main_cst_26 : Ref sig .tc := ⟨.hbm, 129, rfl⟩
abbrev main_v85 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_v86 : Ref sig .tc := ⟨.hbm, 136, rfl⟩
abbrev main_call3_call0_c : Ref sig .tc := ⟨.hbm, 137, rfl⟩
abbrev main_call3_call0_v0 : Ref sig .tc := ⟨.hbm, 138, rfl⟩
abbrev main_v87 : Ref sig .tc := ⟨.hbm, 139, rfl⟩
abbrev main_c_27 : Ref sig .tc := ⟨.hbm, 140, rfl⟩
abbrev main_v88 : Ref sig .tc := ⟨.hbm, 141, rfl⟩
abbrev main_v89 : Ref sig .tc := ⟨.hbm, 142, rfl⟩
abbrev main_cst_28 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_29 : Ref sig .tc := ⟨.hbm, 157, rfl⟩
abbrev main_v103 : Ref sig .tc := ⟨.hbm, 158, rfl⟩
abbrev main_c_30 : Ref sig .tc := ⟨.hbm, 159, rfl⟩
abbrev main_call4_cst : Ref sig .tc := ⟨.hbm, 160, rfl⟩
abbrev main_call4_v0 : Ref sig .tc := ⟨.hbm, 161, rfl⟩
abbrev main_call4_v1 : Ref sig .tc := ⟨.hbm, 162, rfl⟩
abbrev main_call4_cst_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_v6 : Ref sig .tc := ⟨.hbm, 168, rfl⟩
abbrev main_call4_v7 : Ref sig .tc := ⟨.hbm, 169, rfl⟩
abbrev main_call4_cst_1 : Ref sig .tc := ⟨.hbm, 170, rfl⟩
abbrev main_call4_v8 : Ref sig .tc := ⟨.hbm, 171, rfl⟩
abbrev main_call4_cst_2 : Ref sig .tc := ⟨.hbm, 172, rfl⟩
abbrev main_call4_v9 : Ref sig .tc := ⟨.hbm, 173, rfl⟩
abbrev main_call4_v10 : Ref sig .tc := ⟨.hbm, 174, rfl⟩
abbrev main_call4_cst_3 : Ref sig .tc := ⟨.hbm, 175, rfl⟩
abbrev main_call4_v11 : Ref sig .tc := ⟨.hbm, 176, rfl⟩
abbrev main_call4_cst_4 : Ref sig .tc := ⟨.hbm, 177, rfl⟩
abbrev main_call4_call0_v0 : Ref sig .tc := ⟨.hbm, 178, rfl⟩
abbrev main_v104 : Ref sig .tc := ⟨.hbm, 179, rfl⟩
abbrev main_cst_31 : Ref sig .tc := ⟨.hbm, 180, rfl⟩
abbrev main_v105 : Ref sig .tc := ⟨.hbm, 181, rfl⟩
abbrev main_cst_32 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_cst_33 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_cst_34 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_cst_35 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_cst_36 : Ref sig .tc := ⟨.hbm, 206, rfl⟩
abbrev main_v126 : Ref sig .tc := ⟨.hbm, 207, rfl⟩
abbrev main_v127 : Ref sig .tc := ⟨.hbm, 208, rfl⟩
abbrev main_cst_37 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_cst_38 : Ref sig .tc := ⟨.hbm, 221, rfl⟩
abbrev main_v139 : Ref sig .tc := ⟨.hbm, 222, rfl⟩
abbrev main_v140 : Ref sig .tc := ⟨.hbm, 223, rfl⟩

abbrev nD : Nat := 1
abbrev τ : Topo := Topo.v7x

variable {F : FTy → Type} [FloatOps F]
-- ==== Proof.Model.lean ====
/-
  THE GATE AS MATHEMATICS: the functions of one token's 64 scores and of all tokens' scores that both programs compute.
  Everything is over the extended reals and over plain `Fin` indices; no program is mentioned here.

  * `top`, `ex`, `tot`, `soft`, `lse` — the softmax of a row with its maximum subtracted, and the row's log-sum-exp;
  * `cool` — the row scaled by the inverse temperature, whose softmax `pen` reads;
  * `best`, `second` — the first place of the greatest score, and of the greatest score left when that one is masked;
  * `n1`, `n2` — the two gates divided by their sum;
  * `rank` — how many tokens up to and including `t` chose the expert that `t` chose;
  * `keep1`, `keep2`, `w1`, `w2`, `cell1`, `cell2` — who is within capacity, with which weight, in which cell.
-/
module

public import Idealize.ShloMosaic.Lib.Pointwise
public import Mathlib.Data.EReal.Inv

@[expose] public section

noncomputable section

open Idealize.ShloMosaic

namespace Cert.Gate

/-- A row of scores, one per expert. -/
abbrev Row := Fin 64 → EReal

/-- The greatest score of a row. -/
def top (l : Row) : EReal := Finset.univ.fold max ⊥ l

/-- The exponential of a score less the greatest one. -/
def ex (l : Row) (e : Fin 64) : EReal := Ideal.exp (l e - top l)

/-- The sum of those exponentials. -/
def tot (l : Row) : EReal := ∑ e, ex l e

/-- The softmax of a row. -/
def soft (l : Row) (e : Fin 64) : EReal := Ideal.div (ex l e) (tot l)

/-- The log-sum-exp of a row. -/
def lse (l : Row) : EReal := top l + Ideal.log (tot l)

/-- One over the temperature the reference divides by: `1 / 1.66` for the f32 nearest to 1.66. -/
def invTemp : EReal := ((8388608 / 13925089 : ℝ) : EReal)

/-- The row scaled by the inverse temperature. -/
def cool (l : Row) : Row := fun e => l e * invTemp

/-- The softmax of the scaled row. -/
def pz (l : Row) (e : Fin 64) : EReal := soft (cool l) e

theorem le_top (l : Row) (e : Fin 64) : l e ≤ top l :=
  (Finset.le_fold_max _).mpr (.inr ⟨e, Finset.mem_univ e, le_rfl⟩)

theorem top_le {l : Row} {c : EReal} (h : ∀ e, l e ≤ c) : top l ≤ c :=
  (Finset.fold_max_le _).mpr ⟨bot_le, fun e _ => h e⟩

theorem exists_top (l : Row) : ∃ e, l e = top l := by
  obtain ⟨e, -, he⟩ := Finset.exists_max_image Finset.univ l ⟨0, Finset.mem_univ _⟩
  exact ⟨e, le_antisymm (le_top l e) (top_le fun e' => he e' (Finset.mem_univ _))⟩

/-- Where a row is greatest. -/
def tops (l : Row) : Finset (Fin 64) := Finset.univ.filter fun e => l e = top l

theorem tops_nonempty (l : Row) : (tops l).Nonempty := by
  obtain ⟨e, he⟩ := exists_top l
  exact ⟨e, by simp [tops, he]⟩

/-- The first place where a row is greatest. -/
def best (l : Row) : Fin 64 := (tops l).min' (tops_nonempty l)

theorem best_top (l : Row) : l (best l) = top l :=
  (Finset.mem_filter.mp (Finset.min'_mem (tops l) (tops_nonempty l))).2

theorem best_le {l : Row} {e : Fin 64} (h : l e = top l) : best l ≤ e :=
  Finset.min'_le _ _ (by simp [tops, h])

theorem le_best (l : Row) (e : Fin 64) : l e ≤ l (best l) := (le_top l e).trans (best_top l).ge

/-- The least lane number among the lanes that hold the greatest score, the others counted as 64, is `best`. -/
theorem least_lane (l : Row) :
    Finset.univ.fold min ⊤ (fun e : Fin 64 => if l e = top l then ((e.val : ℕ) : EReal) else ((64 : ℕ) : EReal))
      = (((best l).val : ℕ) : EReal) := by
  refine le_antisymm ((Finset.fold_min_le _).mpr (.inr ⟨best l, Finset.mem_univ _, ?_⟩)) ((Finset.le_fold_min _).mpr ⟨le_top', fun e _ => ?_⟩)
  · rw [if_pos (best_top l)]
  · split
    · next h => exact_mod_cast best_le h
    · exact_mod_cast (best l).isLt.le
where le_top' : (((best l).val : ℕ) : EReal) ≤ ⊤ := _root_.le_top

/-- The row with the first choice masked. -/
def rest (l : Row) : Row := fun e => if e = best l then ⊥ else l e

/-- The second choice: the first place where the masked row is greatest. -/
def second (l : Row) : Fin 64 := best (rest l)

/-- The sum of the two chosen probabilities. -/
def den (l : Row) : EReal := soft l (best l) + soft l (second l)

/-- The first gate, normalised. -/
def n1 (l : Row) : EReal := Ideal.div (soft l (best l)) (den l)

/-- The second gate, normalised. -/
def n2 (l : Row) : EReal := Ideal.div (soft l (second l)) (den l)

/-- One where two places are equal, zero elsewhere. -/
def hot (a e : Fin 64) : EReal := if e = a then 1 else 0

/-- A row weighted by a one-hot row sums to its entry there. -/
theorem sum_mul_hot (f : Row) (a : Fin 64) : ∑ e, f e * hot a e = f a := by
  rw [Finset.sum_eq_single a (fun e _ h => by rw [hot, if_neg h, mul_zero]) (fun h => absurd (Finset.mem_univ a) h)]
  rw [hot, if_pos rfl, mul_one]

/-! ## All tokens -/

/-- How many of the tokens up to and including `t` chose what `t` chose. -/
def rank (a : Fin 8192 → Fin 64) (t : Fin 8192) : ℕ := (Finset.univ.filter fun s => s ≤ t ∧ a s = a t).card

theorem rank_pos (a : Fin 8192 → Fin 64) (t : Fin 8192) : 1 ≤ rank a t :=
  Finset.card_pos.mpr ⟨t, by simp⟩

theorem rank_le (a : Fin 8192 → Fin 64) (t : Fin 8192) : rank a t ≤ 8192 :=
  (Finset.card_filter_le _ _).trans (by simp)

/-- Tokens of one expert have different ranks. -/
theorem rank_lt_of_lt (a : Fin 8192 → Fin 64) {s t : Fin 8192} (hst : s < t) (ha : a s = a t) : rank a s < rank a t := by
  refine Finset.card_lt_card ⟨fun u hu => ?_, fun h => ?_⟩
  · simp only [Finset.mem_filter, Finset.mem_univ, true_and] at hu ⊢
    exact ⟨hu.1.trans hst.le, hu.2.trans ha⟩
  · have := h (show t ∈ _ by simp)
    simp only [Finset.mem_filter, Finset.mem_univ, true_and] at this
    exact absurd this.1 (not_le.mpr hst)

theorem rank_inj (a : Fin 8192 → Fin 64) {s t : Fin 8192} (ha : a s = a t) (h : rank a s = rank a t) : s = t := by
  rcases lt_trichotomy s t with hlt | heq | hgt
  · exact absurd h (rank_lt_of_lt a hlt ha).ne
  · exact heq
  · exact absurd h (rank_lt_of_lt a hgt ha.symm).ne'

/-- The scores of all tokens, and the uniform draws that thin out the second choices. -/
structure Inputs where
  /-- the scores -/
  L : Fin 8192 → Row
  /-- the draws -/
  u : Fin 8192 → EReal

variable (I : Inputs)

/-- Each token's first choice. -/
def Inputs.e1 (t : Fin 8192) : Fin 64 := best (I.L t)

/-- Each token's second choice. -/
def Inputs.e2 (t : Fin 8192) : Fin 64 := second (I.L t)

/-- The first choice is within capacity. -/
def Inputs.keep1 (t : Fin 8192) : Prop := rank I.e1 t ≤ 256

/-- The second choice is within capacity, and the draw lets it through. -/
def Inputs.keep2 (t : Fin 8192) : Prop := rank I.e2 t ≤ 256 ∧ I.u t < 2 * n2 (I.L t)

open Classical in
/-- The weight of the first choice. -/
def Inputs.w1 (t : Fin 8192) : EReal := if I.keep1 t then n1 (I.L t) else 0

open Classical in
/-- The weight of the second choice. -/
def Inputs.w2 (t : Fin 8192) : EReal := if I.keep2 t then n2 (I.L t) else 0

open Classical in
/-- The cell of the first choice: 512 cells per expert, first choices in the lower half; 32768 is no cell. -/
def Inputs.cell1 (t : Fin 8192) : ℕ := if I.keep1 t then (I.e1 t).val * 512 + rank I.e1 t - 1 else 32768

open Classical in
/-- The cell of the second choice, in the upper half of the expert's cells. -/
def Inputs.cell2 (t : Fin 8192) : ℕ := if I.keep2 t then (I.e2 t).val * 512 + 256 + rank I.e2 t - 1 else 32768

/-- The weight with which expert `e` enters token `t`'s result. -/
def Inputs.gate (t : Fin 8192) (e : Fin 64) : EReal := hot (I.e1 t) e * I.w1 t + hot (I.e2 t) e * I.w2 t

theorem Inputs.cell1_lt {t : Fin 8192} (h : I.keep1 t) : I.cell1 t < 32768 := by
  rw [Inputs.cell1, if_pos h]
  have h' : rank I.e1 t ≤ 256 := h
  have := (I.e1 t).isLt
  omega

theorem Inputs.cell2_lt {t : Fin 8192} (h : I.keep2 t) : I.cell2 t < 32768 := by
  rw [Inputs.cell2, if_pos h]
  have h' : rank I.e2 t ≤ 256 := h.1
  have := (I.e2 t).isLt
  omega

theorem Inputs.cell1_le (t : Fin 8192) : I.cell1 t ≤ 32768 := by
  by_cases h : I.keep1 t
  · exact (I.cell1_lt h).le
  · rw [Inputs.cell1, if_neg h]

theorem Inputs.cell2_le (t : Fin 8192) : I.cell2 t ≤ 32768 := by
  by_cases h : I.keep2 t
  · exact (I.cell2_lt h).le
  · rw [Inputs.cell2, if_neg h]

theorem Inputs.cell1_lt_iff (t : Fin 8192) : I.cell1 t < 32768 ↔ I.keep1 t :=
  ⟨fun h => by by_contra hk; rw [Inputs.cell1, if_neg hk] at h; exact lt_irrefl _ h, I.cell1_lt⟩

theorem Inputs.cell2_lt_iff (t : Fin 8192) : I.cell2 t < 32768 ↔ I.keep2 t :=
  ⟨fun h => by by_contra hk; rw [Inputs.cell2, if_neg hk] at h; exact lt_irrefl _ h, I.cell2_lt⟩

/-- Two kept first choices in one cell are one token's. -/
theorem Inputs.cell1_inj {s t : Fin 8192} (hs : I.keep1 s) (ht : I.keep1 t) (h : I.cell1 s = I.cell1 t) : s = t := by
  rw [Inputs.cell1, Inputs.cell1, if_pos hs, if_pos ht] at h
  have hs' : rank I.e1 s ≤ 256 := hs
  have ht' : rank I.e1 t ≤ 256 := ht
  have h1 := rank_pos I.e1 s
  have h2 := rank_pos I.e1 t
  exact rank_inj I.e1 (Fin.ext (by omega)) (by omega)

/-- Two kept second choices in one cell are one token's. -/
theorem Inputs.cell2_inj {s t : Fin 8192} (hs : I.keep2 s) (ht : I.keep2 t) (h : I.cell2 s = I.cell2 t) : s = t := by
  rw [Inputs.cell2, Inputs.cell2, if_pos hs, if_pos ht] at h
  have hs' : rank I.e2 s ≤ 256 := hs.1
  have ht' : rank I.e2 t ≤ 256 := ht.1
  have h1 := rank_pos I.e2 s
  have h2 := rank_pos I.e2 t
  exact rank_inj I.e2 (Fin.ext (by omega)) (by omega)

/-- A kept first choice and a kept second choice are never in one cell. -/
theorem Inputs.cell1_ne_cell2 {s t : Fin 8192} (hs : I.keep1 s) (ht : I.keep2 t) : I.cell1 s ≠ I.cell2 t := by
  rw [Inputs.cell1, Inputs.cell2, if_pos hs, if_pos ht]
  have hs' : rank I.e1 s ≤ 256 := hs
  have ht' : rank I.e2 t ≤ 256 := ht.1
  have h1 := rank_pos I.e1 s
  have h2 := rank_pos I.e2 t
  omega

/-- The expert whose cell a kept first choice is in. -/
theorem Inputs.cell1_div {t : Fin 8192} (h : I.keep1 t) : I.cell1 t / 512 = (I.e1 t).val := by
  rw [Inputs.cell1, if_pos h]
  have h' : rank I.e1 t ≤ 256 := h
  have h1 := rank_pos I.e1 t
  omega

/-- The expert whose cell a kept second choice is in. -/
theorem Inputs.cell2_div {t : Fin 8192} (h : I.keep2 t) : I.cell2 t / 512 = (I.e2 t).val := by
  rw [Inputs.cell2, if_pos h]
  have h' : rank I.e2 t ≤ 256 := h.1
  have h1 := rank_pos I.e2 t
  omega

/-- A sum over the experts weighted by the gate is the two chosen experts' values, weighted. -/
theorem Inputs.sum_gate (t : Fin 8192) (f : Row) (hne : I.e1 t ≠ I.e2 t) :
    ∑ e, f e * I.gate t e = f (I.e1 t) * I.w1 t + f (I.e2 t) * I.w2 t := by
  have h (e : Fin 64) : f e * I.gate t e = (f e * I.w1 t) * hot (I.e1 t) e + (f e * I.w2 t) * hot (I.e2 t) e := by
    unfold Inputs.gate
    by_cases h1 : e = I.e1 t
    · have h2 : e ≠ I.e2 t := fun h2 => hne (h1.symm.trans h2)
      simp [hot, h1, hne]
    · by_cases h2 : e = I.e2 t <;> simp [hot, h1, h2, hne.symm]
  simp only [h]
  rw [Finset.sum_add_distrib, sum_mul_hot (fun e => f e * I.w1 t), sum_mul_hot (fun e => f e * I.w2 t)]

end Cert.Gate

end
-- ==== Proof.Choice.lean ====
/-
  THE TWO CHOICES, SORTED: a stable descending sort of a row puts the row's first greatest place first and the first
  greatest place of what is left second; and where all scores are real numbers the softmax of a row orders the places as
  the row itself does, so both choices may be read off either.
-/
module

public import proofs.«01_k».proof.Proof.Model
public import Idealize.ShloMosaic.Lib.SortPrefix

@[expose] public section

noncomputable section

open Idealize.ShloMosaic

namespace Cert.Gate

/-- The first place of the greatest score, recognised. -/
theorem eq_best {l : Row} {e : Fin 64} (hmax : ∀ e', l e' ≤ l e) (hfirst : ∀ e', l e' = l e → e ≤ e') : e = best l := by
  have h : l e = top l := le_antisymm (le_top l e) (top_le hmax)
  exact le_antisymm (hfirst _ ((best_top l).trans h.symm)) (best_le h)

/-- Rows ordered alike have the same first choice. -/
theorem best_congr {a b : Row} (h : ∀ e e', a e ≤ a e' ↔ b e ≤ b e') : best a = best b := by
  refine eq_best (fun e' => (h _ _).mp (le_best a e')) fun e' he => ?_
  have : a e' = a (best a) := le_antisymm ((h _ _).mpr he.le) ((h _ _).mpr he.ge)
  exact best_le (this.trans (best_top a))

/-- Rows ordered alike, with no entry at the bottom, have the same second choice. -/
theorem second_congr {a b : Row} (ha : ∀ e, a e ≠ ⊥) (hb : ∀ e, b e ≠ ⊥) (h : ∀ e e', a e ≤ a e' ↔ b e ≤ b e') :
    second a = second b := by
  have hab := best_congr h
  refine best_congr fun e e' => ?_
  unfold rest
  rw [hab]
  by_cases h1 : e = best b
  · simp [h1]
  · by_cases h2 : e' = best b
    · simp [h1, h2, ha, hb]
    · simp [h1, h2, h]

/-- With no entry at the bottom the second choice is not the first. -/
theorem second_ne_best {l : Row} (hl : ∀ e, l e ≠ ⊥) : second l ≠ best l := by
  intro h
  obtain ⟨e, he⟩ : ∃ e : Fin 64, e ≠ best l := exists_ne _
  have h1 := le_best (rest l) e
  rw [show best (rest l) = best l from h] at h1
  simp [rest, he, hl] at h1

/-! ## The sort -/

/-- The insertion looks at the inserted element only against later ones: relations that agree there insert alike. -/
theorem insertBefore_congr {ι : Type} {B B' : ι → ι → Bool} {a : ι} {l : List ι} (h : ∀ b ∈ l, B b a = B' b a) :
    insertBefore B a l = insertBefore B' a l := by
  induction l with
  | nil => rfl
  | cons b l ih =>
    unfold insertBefore
    rw [h b (by simp), ih fun c hc => h c (by simp [hc])]

/-- So sorts of a list agree where the relations agree on each element against the later ones. -/
theorem stableSort_congr {ι : Type} {B B' : ι → ι → Bool} {l : List ι} (h : l.Pairwise fun a b => B b a = B' b a) :
    stableSort B l = stableSort B' l := by
  induction l with
  | nil => rfl
  | cons a l ih =>
    rw [List.pairwise_cons] at h
    unfold stableSort
    rw [ih h.2]
    exact insertBefore_congr fun b hb => h.1 b ((perm_stableSort B' l).mem_iff.mp hb)

/-- Greater first, and of equal ones the earlier first. -/
def ahead (l : Row) (e e' : Fin 64) : Bool := decide (l e' < l e) || (decide (l e = l e') && decide (e < e'))

theorem ahead_order (l : Row) : StrictTotalBefore (ahead l) :=
  StrictTotalBefore.of_key_then_position (fun a b : EReal => decide (b < a)) l (fun a => by simp)
    (fun a b c h1 h2 => by simp only [decide_eq_true_eq] at *; exact h2.trans h1)
    fun a b => by simp only [decide_eq_true_eq]; rcases lt_trichotomy a b with h | h | h <;> simp [h]

theorem ahead_false {l : Row} {e e' : Fin 64} (h : l e ≤ l e') (h' : l e = l e' → e' ≤ e) : ahead l e e' = false := by
  simp only [ahead, Bool.or_eq_false_iff, Bool.and_eq_false_iff, decide_eq_false_iff_not, not_lt]
  refine ⟨h, ?_⟩
  by_cases he : l e = l e'
  · exact .inr (h' he)
  · exact .inl he

/-- Sorts of one list by relations that agree on each position against the later ones. -/
theorem sortedFrom_congr {n : ℕ} {B B' : Fin n → Fin n → Bool} (h : ∀ a b : Fin n, a < b → B b a = B' b a) :
    sortedFrom B = sortedFrom B' := by
  have h : sortPositions n B = sortPositions n B' := stableSort_congr ((List.pairwise_lt_finRange n).imp fun {a b} hab => h a b hab)
  funext k
  unfold sortedFrom
  exact List.get_of_eq h _

/-- A stable sort by "greater" is the sort with ties settled by position. -/
theorem sortedFrom_ahead (l : Row) : sortedFrom (fun e e' : Fin 64 => decide (l e' < l e)) = sortedFrom (ahead l) := by
  refine sortedFrom_congr fun a b hab => ?_
  simp [ahead, not_lt.mpr hab.le]

/-- The first two places of a stable descending sort. -/
theorem sorted_two {l : Row} (hl : ∀ e, l e ≠ ⊥) :
    sortedFrom (fun e e' : Fin 64 => decide (l e' < l e)) 0 = best l
      ∧ sortedFrom (fun e e' : Fin 64 => decide (l e' < l e)) 1 = second l := by
  rw [sortedFrom_ahead]
  have hne := second_ne_best hl
  have hrest (p : Fin 64) (hp : p ≠ best l) : l p ≤ l (second l) ∧ (l p = l (second l) → second l ≤ p) := by
    have hv (q : Fin 64) (hq : q ≠ best l) : rest l q = l q := if_neg hq
    constructor
    · have := le_best (rest l) p
      rwa [hv p hp, show best (rest l) = second l from rfl, hv _ hne] at this
    · intro h
      refine best_le (l := rest l) ?_
      rw [← best_top (rest l), show best (rest l) = second l from rfl, hv p hp, hv _ hne, h]
  have key := (ahead_order l).sortedFrom_eq_of_prefix (k := 2) (by decide) ![best l, second l] ?_ ?_ ?_
  · exact ⟨key 0, key 1⟩
  · intro i j hij
    fin_cases i <;> fin_cases j <;> simp_all [hne.symm]
  · intro i j hij
    fin_cases i <;> fin_cases j <;> simp at hij
    exact ahead_false (le_best l _) fun h => best_le (h.trans (best_top l))
  · intro i p hp
    have h0 : p ≠ best l := fun h => hp 0 h.symm
    fin_cases i
    · exact ahead_false (le_best l _) fun h => best_le (h.trans (best_top l))
    · exact ahead_false (hrest p h0).1 (hrest p h0).2

/-! ## Real scores -/

/-- Every score of the row is a real number. -/
def Finite (l : Row) : Prop := ∀ e, ∃ r : ℝ, l e = (r : EReal)

theorem Finite.ne_bot {l : Row} (h : Finite l) (e : Fin 64) : l e ≠ ⊥ := by
  obtain ⟨r, hr⟩ := h e
  rw [hr]
  exact EReal.coe_ne_bot r

/-- The softmax of a real row: real numbers in closed form. -/
theorem Finite.soft_eq {l : Row} (h : Finite l) : ∃ (r : Fin 64 → ℝ) (M T : ℝ), 0 < T ∧ (∀ e, l e = (r e : EReal))
    ∧ ∀ e, soft l e = ((Real.exp (r e - M) * T⁻¹ : ℝ) : EReal) := by
  choose r hr using h
  have hT : 0 < ∑ e, Real.exp (r e - r (best l)) := Finset.sum_pos (fun e _ => Real.exp_pos _) ⟨0, Finset.mem_univ _⟩
  refine ⟨r, r (best l), ∑ e, Real.exp (r e - r (best l)), hT, hr, fun e => ?_⟩
  have hex (e : Fin 64) : ex l e = ((Real.exp (r e - r (best l)) : ℝ) : EReal) := by
    unfold ex
    rw [← best_top, hr e, hr (best l), ← EReal.coe_sub, Ideal.exp_coe]
  have htot : tot l = ((∑ e, Real.exp (r e - r (best l)) : ℝ) : EReal) := by
    unfold tot
    simp only [hex]
    exact (map_sum (⟨⟨fun r : ℝ => (r : EReal), EReal.coe_zero⟩, EReal.coe_add⟩ : ℝ →+ EReal) _ _).symm
  unfold soft
  rw [hex, htot, Ideal.div, if_neg (by exact_mod_cast hT.ne'), ← EReal.coe_inv, ← EReal.coe_mul]

theorem Finite.soft_ne_bot {l : Row} (h : Finite l) (e : Fin 64) : soft l e ≠ ⊥ := by
  obtain ⟨r, M, T, -, -, hs⟩ := h.soft_eq
  rw [hs]
  exact EReal.coe_ne_bot _

/-- The softmax orders the places as the scores do. -/
theorem Finite.soft_le_iff {l : Row} (h : Finite l) (e e' : Fin 64) : soft l e ≤ soft l e' ↔ l e ≤ l e' := by
  obtain ⟨r, M, T, hT, hr, hs⟩ := h.soft_eq
  rw [hs, hs, hr, hr, EReal.coe_le_coe_iff, EReal.coe_le_coe_iff, mul_le_mul_iff_left₀ (inv_pos.mpr hT), Real.exp_le_exp,
    sub_le_sub_iff_right]

theorem Finite.best_soft {l : Row} (h : Finite l) : best (soft l) = best l := best_congr h.soft_le_iff

theorem Finite.second_soft {l : Row} (h : Finite l) : second (soft l) = second l :=
  second_congr h.soft_ne_bot h.ne_bot h.soft_le_iff

end Cert.Gate

end
-- ==== Proof.Problem.lean ====
/-
  THE ARGUMENTS READ AS A GATE PROBLEM: a token's scores are its row against the gate's weights; the flat token `s` is
  row `s % 4096` of sequence `s / 4096`.
-/
module

public import proofs.«01_k».proof.Proof.Model

@[expose] public section

noncomputable section

open Idealize.ShloMosaic

namespace Cert.Gate

/-- Token `s`'s row of the input. -/
def row (x : Vec Ideal ⟨3, ![2, 4096, 768]⟩ .f32) (s : Fin 8192) (k : Fin 768) : EReal :=
  x (ix3 ⟨s.val / 4096, by omega⟩ ⟨s.val % 4096, by omega⟩ k)

/-- The scores and draws of the arguments. -/
def problem (x : Vec Ideal ⟨3, ![2, 4096, 768]⟩ .f32) (g : Vec Ideal ⟨2, ![64, 768]⟩ .f32) (u : Vec Ideal ⟨1, ![8192]⟩ .f32) :
    Inputs where
  L s e := ∑ k : Fin 768, row x s k * g (ix2 e k)
  u s := u (ix1 s)

end Cert.Gate

end
-- ==== Proof.Precondition.lean ====
/-
  THE PRECONDITION READ BACK: the program that states it is all ones only where every entry of the input and of the gate's
  weights is a real number; then every score is real.
-/
module

public import proofs.«01_k».proof.Defs
public import proofs.«01_k».proof.Proof.Choice
public import proofs.«01_k».proof.Proof.Problem
public import Idealize.ShloMosaic.Lib.ReduceAll
public import Idealize.ShloMosaic.PureOps.Ideal

@[expose] public section

set_option maxRecDepth 16384

noncomputable section

open Idealize.ShloMosaic Idealize.ShloMosaic.TcCoe
open Cert.Gate

namespace Cert.Pre_finite_gate

/-- The side conditions of the precondition's operations. -/
theorem facts : Facts where
  bcast_S_S2x4096x768 := by decide
  reducesTo_S2x4096x768_S_d0_1_2 := by decide
  h_S_ := by decide
  bcast_S_S64x768 := by decide
  reducesTo_S64x768_S_d0_1 := by decide

instance : Subsingleton S_.Idx := ⟨fun _ _ => funext fun a => a.elim0⟩

/-- The infinite word. -/
theorem infinite : Ideal.ofBits .f32 0x7F800000#32 = ⊤ := by simp [Ideal.ofBits, Ideal.ieee]

/-- An extended real of absolute value below the infinite word is a real. -/
theorem real_of_below {a : EReal} (h : Ideal.cmp .olt (max a (-a)) (Ideal.ofBits .f32 0x7F800000#32) = 1#1) :
    ∃ r : ℝ, a = (r : EReal) := by
  rw [infinite] at h
  have hlt : max a (-a) < ⊤ := by
    by_contra hn
    have h0 : Ideal.cmp .olt (max a (-a)) ⊤ = 0#1 := by simp [Ideal.cmp, hn]
    rw [h0] at h
    exact absurd h (by decide)
  obtain ⟨h1, h2⟩ := max_lt_iff.1 hlt
  induction a with
  | bot => simp at h2
  | top => simp at h1
  | coe r => exact ⟨r, rfl⟩

theorem real_entries [Facts] {x : FVec Ideal S2x4096x768 .f32} {g : FVec Ideal S64x768 .f32} {a2 : FVec Ideal S64x3072x768 .f32}
    {a3 : FVec Ideal S64x3072 .f32} {a4 : FVec Ideal S64x768x3072 .f32} {a5 : FVec Ideal S64x768 .f32} {u : FVec Ideal S8192 .f32}
    (h : fn x g a2 a3 a4 a5 u = fun _ => 1#1) :
    (∀ i, ∃ r : ℝ, (x i : EReal) = (r : EReal)) ∧ ∀ i, ∃ r : ℝ, (g i : EReal) = (r : EReal) := by
  have h0 := congrFun h ix0
  obtain ⟨hx, hg⟩ := IntOp.andi_eq_one.1 (show IntOp.andi _ _ = 1#1 from h0)
  exact ⟨fun i => real_of_below (Host.reduce_andi_all _ _ _ _ _ hx i), fun i => real_of_below (Host.reduce_andi_all _ _ _ _ _ hg i)⟩

end Cert.Pre_finite_gate

namespace Cert.Gate

/-- Sums of products of reals are real. -/
theorem finite_scores {x : Vec Ideal ⟨3, ![2, 4096, 768]⟩ .f32} {g : Vec Ideal ⟨2, ![64, 768]⟩ .f32} (u : Vec Ideal ⟨1, ![8192]⟩ .f32)
    (hx : ∀ i, ∃ r : ℝ, (x i : EReal) = (r : EReal)) (hg : ∀ i, ∃ r : ℝ, (g i : EReal) = (r : EReal)) (s : Fin 8192) :
    Finite ((problem x g u).L s) := by
  intro e
  choose p hp using hx
  choose q hq using hg
  show ∃ r : ℝ, (∑ k : Fin 768, row x s k * g (ix2 e k) : EReal) = (r : EReal)
  refine ⟨∑ k : Fin 768, p (ix3 ⟨s.val / 4096, by omega⟩ ⟨s.val % 4096, by omega⟩ k) * q (ix2 e k), ?_⟩
  refine (Finset.sum_congr rfl fun k _ => ?_).trans
    (map_sum (⟨⟨fun r : ℝ => (r : EReal), EReal.coe_zero⟩, EReal.coe_add⟩ : ℝ →+ EReal) _ _).symm
  refine (congrArg₂ (fun a b : EReal => a * b) (hp _) (hq _)).trans ?_
  exact (EReal.coe_mul _ _).symm

end Cert.Gate

end
-- ==== Proof.RunResults.lean ====
/-
  THE KERNEL PROGRAM'S RUN WITH ITS RESULTS: the frame's launch, its last state read at the two result arrays as well —
  they hold what the fold of the program's stretches and regions leaves in them.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends with the result arrays at the fold's last contents and the arguments as launched. -/
theorem run_results : θ_run defs (onTc (τ := τ) (main (F := F))) ⟨m, fun _ => 0, ρ⟩ (fun r => (∀ c : Dev nD,
      r.2.mem ((c.tc : Thread nD τ).loc main_v114) = W11 m ρ c (Proc.devRef .tc main_v114)
      ∧ r.2.mem ((c.tc : Thread nD τ).loc main_v42) = W11 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨(fun c =>
      ⟨h c _ (mem_uc main_v114 (by decide)),
       h c _ (mem_uc main_v42 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩), funext fun g => hz g (.inr (no_unscoped g.2))⟩)

end Cert.KernelIdeal.Gen

end
-- ==== Proof.Words.lean ====
/-
  THE CONSTANTS AND THE SMALL CONVERSIONS at the extended reals: what each f32 word of the two programs denotes, and
  what a conversion between an integer word and a number gives for the numbers that occur here.
-/
module

public import Idealize.ShloMosaic.Lib.Pointwise
public import Idealize.ShloMosaic.Lib.IdealHost
public import proofs.«01_k».proof.KernelIdeal

@[expose] public section

noncomputable section

open Idealize.ShloMosaic

namespace Cert.Gate

theorem word_neg_inf : Ideal.ofBits .f32 0xFF800000#32 = ⊥ := by simp [Ideal.ofBits, Ideal.ieee]
theorem word_pos_inf : Ideal.ofBits .f32 0x7F800000#32 = ⊤ := by simp [Ideal.ofBits, Ideal.ieee]

theorem word_2 : Ideal.ofBits .f32 0x40000000#32 = 2 := by
  rw [show (2 : EReal) = ((2 : ℝ) : EReal) by norm_cast]
  simp [Ideal.ofBits, Ideal.ieee, -EReal.coe_mul]; norm_num
theorem word_64 : Ideal.ofBits .f32 0x42800000#32 = ((64 : ℕ) : EReal) := by
  rw [show ((64 : ℕ) : EReal) = ((64 : ℝ) : EReal) by norm_cast]
  simp [Ideal.ofBits, Ideal.ieee, -EReal.coe_mul]; norm_num
theorem word_256 : Ideal.ofBits .f32 0x43800000#32 = ((256 : ℕ) : EReal) := by
  rw [show ((256 : ℕ) : EReal) = ((256 : ℝ) : EReal) by norm_cast]
  simp [Ideal.ofBits, Ideal.ieee, -EReal.coe_mul]; norm_num
theorem word_512 : Ideal.ofBits .f32 0x44000000#32 = ((512 : ℕ) : EReal) := by
  rw [show ((512 : ℕ) : EReal) = ((512 : ℝ) : EReal) by norm_cast]
  simp [Ideal.ofBits, Ideal.ieee, -EReal.coe_mul]; norm_num
theorem word_8192 : Ideal.ofBits .f32 0x46000000#32 = ((8192 : ℕ) : EReal) := by
  rw [show ((8192 : ℕ) : EReal) = ((8192 : ℝ) : EReal) by norm_cast]
  simp [Ideal.ofBits, Ideal.ieee, -EReal.coe_mul]; norm_num
theorem word_32768 : Ideal.ofBits .f32 0x47000000#32 = ((32768 : ℕ) : EReal) := by
  rw [show ((32768 : ℕ) : EReal) = ((32768 : ℝ) : EReal) by norm_cast]
  simp [Ideal.ofBits, Ideal.ieee, -EReal.coe_mul]; norm_num
/-- The temperature: the f32 nearest to 1.66. -/
theorem word_temp : Ideal.ofBits .f32 0x3FD47AE1#32 = ((13925089 / 8388608 : ℝ) : EReal) := by
  simp [Ideal.ofBits, Ideal.ieee, -EReal.coe_mul]; norm_num

/-- The named constant of the inverse temperature. -/
theorem named_inv_temp : Named.named (F := Ideal) Cert.KernelIdeal.κ "inv_temp" (φ := .f32) 0x3F1A3785#32
    = ((8388608 / 13925089 : ℝ) : EReal) :=
  IdealRules.named_const.ideal_named_scalar _ _ _ _ rfl

/-- The named constant of the mask. -/
theorem named_mask : Named.named (F := Ideal) Cert.KernelIdeal.κ "mask" (φ := .f32) 0xF149F2CA#32 = ⊥ :=
  IdealRules.named_const.ideal_named_scalar _ _ _ _ rfl

/-- A small number as a word, read as a signed number. -/
theorem sitofp_nat {n : ℕ} (h : n < 2 ^ 31) : FloatOps.sitofp (F := Ideal) .f32 (BitVec.ofNat 32 n) = ((n : ℕ) : EReal) := by
  show (((BitVec.ofNat 32 n).toInt : ℝ) : EReal) = _
  have hn : (BitVec.ofNat 32 n).toNat = n := by rw [BitVec.toNat_ofNat]; omega
  rw [BitVec.toInt_eq_toNat_of_lt (by rw [hn]; omega), hn]
  simp

/-- A truth value as a word, read as a number. -/
theorem sitofp_bit (p : Prop) [Decidable p] :
    FloatOps.sitofp (F := Ideal) .f32 (BitVec.setWidth 32 (BitVec.ofBool (decide p))) = if p then 1 else 0 := by
  show ((((BitVec.setWidth 32 (BitVec.ofBool (decide p))).toInt : ℝ)) : EReal) = _
  by_cases h : p <;> simp [h]

/-- A truth value read as a number. -/
theorem uitofp_bit (p : Prop) [Decidable p] :
    FloatOps.uitofp (F := Ideal) .f32 (BitVec.ofBool (decide p)) = if p then 1 else 0 := by
  show ((((BitVec.ofBool (decide p)).toNat : ℝ)) : EReal) = _
  by_cases h : p <;> simp [h]

/-- A small whole number converted to a word. -/
theorem fptosi_nat {n : ℕ} (h : n < 2 ^ 31) : FloatOps.fptosi (F := Ideal) (φ := .f32) 32 ((n : ℕ) : EReal) = BitVec.ofNat 32 n := by
  show Ideal.fptosi 32 _ = _
  rw [show ((n : ℕ) : EReal) = ((n : ℝ) : EReal) by norm_cast, Ideal.fptosi, Ideal.toIntClamped_coe,
    if_pos (Nat.cast_nonneg n), Int.floor_natCast]
  have : max (-((2 ^ (32 - 1) : ℕ) : ℤ)) (min (((2 ^ (32 - 1) : ℕ) : ℤ) - 1) (n : ℤ)) = (n : ℤ) := by
    norm_num; omega
  rw [this]
  exact BitVec.ofInt_natCast 32 n

/-- A choice by a decided bit is the choice by the proposition. -/
theorem select_decide {α : Type} (p : Prop) [Decidable p] (x y : α) :
    Scalar.select (BitVec.ofBool (decide p)) x y = if p then x else y := by
  by_cases h : p <;> simp [Scalar.select, h]

/-- Two decided bits conjoined. -/
theorem andi_decide (p q : Prop) [Decidable p] [Decidable q] :
    IntOp.andi (BitVec.ofBool (decide p)) (BitVec.ofBool (decide q)) = BitVec.ofBool (decide (p ∧ q)) := by
  by_cases h : p <;> by_cases h' : q <;> simp [IntOp.andi, h, h']

end Cert.Gate

end
-- ==== Proof.GateRow.lean ====
/-
  THE GATE KERNEL'S ROW ARITHMETIC, READ AT AN INDEX: each payload of the gate's body that works within one token's row
  is the function of `Model.lean` that it computes, of that token's scores `scores x g r`.
-/
module

public import proofs.«01_k».proof.Proof.Gen.KernelIdeal.Skeleton
public import proofs.«01_k».proof.Proof.Model
public import proofs.«01_k».proof.Proof.Words

@[expose] public section

set_option maxRecDepth 16384

noncomputable section

open Idealize.ShloMosaic Idealize.ShloMosaic.TcCoe Idealize.SL.Sem
open Cert.Gate

namespace Cert.KernelIdeal.Gen

variable (x : Vec Ideal S1x1024x768 .f32) (g : Vec Ideal S64x768 .f32)

/-- The scores of the block's row `r`. -/
def scores (r : Fin 1024) : Row := fun e => ∑ k : Fin 768, x (ix3 0 r k) * g (ix2 e k)

theorem pay12_row (r : Fin 1024) (e : Fin 64) : k0_pay12 x g (ix2 r e) = scores x g r e := by
  pointwise [k0_pay12, scores]

theorem pay13_row (r : Fin 1024) (e : Fin 64) : k0_pay13 (F := Ideal) (ix2 r e) = ((e.val : ℕ) : EReal) := by
  pointwise [k0_pay13]
  exact sitofp_nat (by omega)

theorem pay14_row (r : Fin 1024) : k0_pay14 x g (ix2 r 0) = top (scores x g r) := by
  pointwise [k0_pay14]
  simp only [pay12_row, word_neg_inf]
  rfl

theorem pay15_row (r : Fin 1024) (e : Fin 64) : k0_pay15 x g (ix2 r e) = ex (scores x g r) e := by
  pointwise [k0_pay15]
  rw [pay12_row, pay14_row]
  rfl

theorem pay16_row (r : Fin 1024) : k0_pay16 x g (ix2 r 0) = tot (scores x g r) := by
  pointwise [k0_pay16]
  simp only [pay15_row]
  rfl

theorem pay17_row (r : Fin 1024) (e : Fin 64) : k0_pay17 x g (ix2 r e) = soft (scores x g r) e := by
  pointwise [k0_pay17]
  rw [pay15_row, pay16_row]
  rfl

theorem pay18_row (r : Fin 1024) : k0_pay18 x g (ix2 r 0) = lse (scores x g r) := by
  pointwise [k0_pay18]
  rw [pay14_row, pay16_row]
  rfl

theorem pay19_row (r : Fin 1024) (e : Fin 64) : k0_pay19 x g (ix2 r e) = pz (scores x g r) e := by
  pointwise [k0_pay19]
  simp only [pay12_row, word_neg_inf, named_inv_temp]
  rfl

theorem pay20_row (r : Fin 1024) : k0_pay20 x g (ix2 r 0) = (((best (scores x g r)).val : ℕ) : EReal) := by
  rw [← least_lane]
  pointwise [k0_pay20]
  simp only [pay12_row, pay13_row, pay14_row, word_pos_inf, word_64]

theorem pay21_row (r : Fin 1024) (e : Fin 64) : k0_pay21 x g (ix2 r e) = hot (best (scores x g r)) e := by
  pointwise [k0_pay21]
  rw [sitofp_bit, pay13_row, pay20_row]
  exact if_congr (by rw [Nat.cast_inj, Fin.val_inj]) rfl rfl

theorem pay22_row (r : Fin 1024) (e : Fin 64) :
    k0_pay22 x g (ix2 r e) = soft (scores x g r) e * hot (best (scores x g r)) e := by
  pointwise [k0_pay22]
  rw [pay17_row, pay21_row]

theorem pay23_row (r : Fin 1024) :
    k0_pay23 (k0_pay22 x g) (ix2 r 0) = soft (scores x g r) (best (scores x g r)) := by
  pointwise [k0_pay23]
  simp only [pay22_row]
  exact sum_mul_hot _ _

/-- A one-hot entry is positive exactly at the hot place. -/
theorem hot_pos (a e : Fin 64) : 0 < hot a e ↔ e = a := by
  unfold hot
  split <;> simp_all

theorem pay24_row (r : Fin 1024) :
    k0_pay24 (k0_pay12 x g) k0_pay13 (k0_pay21 x g) (ix2 r 0) = (((second (scores x g r)).val : ℕ) : EReal) := by
  rw [second, ← least_lane]
  pointwise [k0_pay24]
  simp only [pay12_row, pay13_row, pay21_row, hot_pos, word_neg_inf, word_pos_inf, word_64, named_mask]
  rfl

theorem pay25_row (r : Fin 1024) (e : Fin 64) :
    k0_pay25 (k0_pay12 x g) k0_pay13 (k0_pay21 x g) (ix2 r e) = hot (second (scores x g r)) e := by
  pointwise [k0_pay25]
  rw [sitofp_bit, pay13_row, pay24_row]
  exact if_congr (by rw [Nat.cast_inj, Fin.val_inj]) rfl rfl

theorem pay26_row (r : Fin 1024) :
    k0_pay26 (k0_pay12 x g) k0_pay13 (k0_pay17 x g) (k0_pay21 x g) (ix2 r 0)
      = soft (scores x g r) (second (scores x g r)) := by
  pointwise [k0_pay26]
  simp only [pay25_row, pay17_row]
  exact sum_mul_hot _ _

theorem pay27_row (r : Fin 1024) :
    k0_pay27 (k0_pay12 x g) k0_pay13 (k0_pay17 x g) (k0_pay21 x g) (k0_pay22 x g) (ix2 r 0) = den (scores x g r) := by
  pointwise [k0_pay27]
  rw [pay23_row, pay26_row]
  rfl

theorem pay28_row (r : Fin 1024) :
    k0_pay28 (k0_pay12 x g) k0_pay13 (k0_pay17 x g) (k0_pay21 x g) (k0_pay22 x g) (ix2 r 0) = n1 (scores x g r) := by
  pointwise [k0_pay28]
  rw [pay23_row, pay27_row]
  rfl

theorem pay29_row (r : Fin 1024) :
    k0_pay29 (k0_pay12 x g) k0_pay13 (k0_pay17 x g) (k0_pay21 x g) (k0_pay22 x g) (ix2 r 0) = n2 (scores x g r) := by
  pointwise [k0_pay29]
  rw [pay26_row, pay27_row]
  rfl

end Cert.KernelIdeal.Gen

end
-- ==== Proof.GateBlock.lean ====
/-
  THE GATE KERNEL'S BLOCK ARITHMETIC: the payloads that count within a block of 1024 tokens (the ranks), that turn a rank
  into a cell and a weight, and that add a block to a running sum over all tokens.
-/
module

public import proofs.«01_k».proof.Proof.GateRow

@[expose] public section

set_option maxRecDepth 16384

noncomputable section

open Idealize.ShloMosaic Idealize.ShloMosaic.TcCoe Idealize.SL.Sem
open Cert.Gate

namespace Cert.KernelIdeal.Gen

variable (x : Vec Ideal S1x1024x768 .f32) (g : Vec Ideal S64x768 .f32)

/-- The lower triangle with its diagonal, as numbers. -/
theorem pay30_row (r s : Fin 1024) : k0_pay30 (F := Ideal) (ix2 r s) = if s ≤ r then 1 else 0 := by
  pointwise [k0_pay30]
  have h : IntOp.cmpi CmpIPredicate.sle (BitVec.ofNat 32 s.val) (BitVec.ofNat 32 r.val)
      = BitVec.ofBool (decide (s ≤ r)) := by
    have hs : (BitVec.ofNat 32 s.val).toNat = s.val := by rw [BitVec.toNat_ofNat]; omega
    have hr : (BitVec.ofNat 32 r.val).toNat = r.val := by rw [BitVec.toNat_ofNat]; omega
    show BitVec.ofBool (decide ((BitVec.ofNat 32 s.val).toInt ≤ (BitVec.ofNat 32 r.val).toInt)) = _
    rw [BitVec.toInt_eq_toNat_of_lt (by rw [hs]; omega), BitVec.toInt_eq_toNat_of_lt (by rw [hr]; omega), hs, hr]
    exact congrArg BitVec.ofBool (decide_eq_decide.mpr (Int.ofNat_le.trans Fin.le_def.symm))
  rw [h, sitofp_bit]

/-- How many rows of the block up to and including `r` chose what row `r` chose. -/
def blockRank (b : Fin 1024 → Fin 64) (r : Fin 1024) : ℕ := ∑ s, if s ≤ r ∧ b s = b r then 1 else 0

/-- The triangle's product with one-hot rows, read at the row's own choice, counts. -/
theorem tri_hot (b : Fin 1024 → Fin 64) (c : Row) (r : Fin 1024) :
    ∑ e, (∑ s, (if s ≤ r then (1 : EReal) else 0) * hot (b s) e + c e) * hot (b r) e = ((blockRank b r : ℕ) : EReal) + c (b r) := by
  rw [sum_mul_hot (fun e => ∑ s, (if s ≤ r then (1 : EReal) else 0) * hot (b s) e + c e), blockRank, Nat.cast_sum]
  congr 1
  refine Finset.sum_congr rfl fun s _ => ?_
  by_cases h : s ≤ r <;> by_cases h' : b s = b r <;> simp [hot, h, h', Ne.symm, eq_comm (a := b r)]

theorem pay31_row (c : Vec Ideal S1x64 .f32) (r : Fin 1024) :
    k0_pay31 (k0_pay21 x g) c (ix2 r 0)
      = ((blockRank (fun s => best (scores x g s)) r : ℕ) : EReal) + c (ix2 0 (best (scores x g r))) := by
  pointwise [k0_pay31]
  simp only [pay30_row, pay21_row]
  exact tri_hot (fun s => best (scores x g s)) (fun e => c (ix2 0 e)) r

theorem pay32_row (c : Vec Ideal S1x64 .f32) (r : Fin 1024) :
    k0_pay32 (k0_pay12 x g) k0_pay13 (k0_pay21 x g) c (ix2 r 0)
      = ((blockRank (fun s => second (scores x g s)) r : ℕ) : EReal) + c (ix2 0 (second (scores x g r))) := by
  pointwise [k0_pay32]
  simp only [pay30_row, pay25_row]
  exact tri_hot (fun s => second (scores x g s)) (fun e => c (ix2 0 e)) r

/-- One less than a positive number. -/
theorem nat_sub_one {n : ℕ} (h : 1 ≤ n) : ((n : ℕ) : EReal) - 1 = ((n - 1 : ℕ) : EReal) := by
  obtain ⟨k, rfl⟩ : ∃ k, n = k + 1 := ⟨n - 1, by omega⟩
  rw [Nat.add_sub_cancel, ← EReal.coe_natCast (n := k + 1), ← EReal.coe_natCast (n := k), ← EReal.coe_one, ← EReal.coe_sub]
  congr 1
  push_cast
  ring

/-- The first choice's cell, from its expert and its rank. -/
theorem pay37_row (v36 v79 : FVec Ideal S1024x1 .f32) (r : Fin 1024) (e : Fin 64) (n : ℕ) (h1 : 1 ≤ n) (h2 : n ≤ 8192)
    (h36 : v36 (ix2 r 0) = ((e.val : ℕ) : EReal)) (h79 : v79 (ix2 r 0) = ((n : ℕ) : EReal)) :
    k0_pay37 v36 v79 (FloatOps.ofBits .f32 0x43800000#32) (ix3 0 r 0)
      = BitVec.ofNat 32 (if n ≤ 256 then e.val * 512 + n - 1 else 32768) := by
  pointwise [k0_pay37, k0_pay33]
  rw [h36, h79, word_256, word_512, word_32768]
  simp only [select_decide, Nat.cast_le]
  have he := e.isLt
  split
  · rw [← fptosi_nat (by omega)]
    congr 1
    rw [← nat_sub_one (by omega)]
    push_cast
    rfl
  · exact fptosi_nat (by norm_num)

/-- The second choice's cell, from its expert, its rank and the draw. -/
theorem pay38_row (v55 v65 v86 : FVec Ideal S1024x1 .f32) (v89 : Vec Ideal S1x1024x1 .f32) (r : Fin 1024) (e : Fin 64) (n : ℕ)
    (h1 : 1 ≤ n) (h2 : n ≤ 8192) (h55 : v55 (ix2 r 0) = ((e.val : ℕ) : EReal)) (h86 : v86 (ix2 r 0) = ((n : ℕ) : EReal)) :
    k0_pay38 v55 v65 v86 v89 (ix3 0 r 0)
      = BitVec.ofNat 32 (open Classical in if n ≤ 256 ∧ v89 (ix3 0 r 0) < 2 * v65 (ix2 r 0) then e.val * 512 + 256 + n - 1 else 32768) := by
  pointwise [k0_pay38, k0_pay34]
  rw [h55, h86, word_256, word_512, word_32768, word_2]
  simp only [andi_decide, select_decide, Nat.cast_le]
  have he := e.isLt
  split
  · rw [← fptosi_nat (by omega)]
    congr 1
    rw [← nat_sub_one (by omega)]
    push_cast
    rfl
  · exact fptosi_nat (by norm_num)

/-- The first choice's weight. -/
theorem pay35_row (v64 v79 : FVec Ideal S1024x1 .f32) (r : Fin 1024) (n : ℕ) (h79 : v79 (ix2 r 0) = ((n : ℕ) : EReal)) :
    k0_pay35 v64 v79 (FloatOps.ofBits .f32 0x43800000#32) (ix2 r 0) = if n ≤ 256 then v64 (ix2 r 0) else 0 := by
  pointwise [k0_pay35, k0_pay33]
  rw [h79, word_256]
  simp only [select_decide, Nat.cast_le]

/-- The second choice's weight. -/
theorem pay36_row (v65 v86 : FVec Ideal S1024x1 .f32) (v89 : Vec Ideal S1x1024x1 .f32) (r : Fin 1024) (n : ℕ)
    (h86 : v86 (ix2 r 0) = ((n : ℕ) : EReal)) :
    k0_pay36 v65 v86 v89 (ix2 r 0)
      = open Classical in if n ≤ 256 ∧ v89 (ix3 0 r 0) < 2 * v65 (ix2 r 0) then v65 (ix2 r 0) else 0 := by
  pointwise [k0_pay36, k0_pay34]
  rw [h86, word_256, word_2]
  simp only [andi_decide, select_decide, Nat.cast_le]

theorem pay39_row (v : FVec Ideal S1024x1 .f32) (r : Fin 1024) : k0_pay39 v (ix3 0 r 0) = v (ix2 r 0) := by
  pointwise [k0_pay39]

theorem pay40_row (v : FVec Ideal S1024x1 .f32) (r : Fin 1024) : k0_pay40 v (ix3 0 r 0) = v (ix2 r 0) := by
  pointwise [k0_pay40]

/-! ## The running sums -/

theorem pay41_col (a : Vec Ideal S1x64 .f32) (e : Fin 64) :
    k0_pay41 (k0_pay19 x g) a (ix2 0 e) = a (ix2 0 e) + ∑ r, pz (scores x g r) e := by
  pointwise [k0_pay41]
  simp only [pay19_row]

theorem pay42_col (a : Vec Ideal S1x64 .f32) (e : Fin 64) :
    k0_pay42 (k0_pay17 x g) a (ix2 0 e) = a (ix2 0 e) + ∑ r, soft (scores x g r) e := by
  pointwise [k0_pay42]
  simp only [pay17_row]

theorem pay3_col (a : Vec Ideal S1x64 .f32) (e : Fin 64) :
    k0_pay3 (k0_pay21 x g) a (ix2 0 e) = a (ix2 0 e) + ∑ r, hot (best (scores x g r)) e := by
  pointwise [k0_pay3]
  simp only [pay21_row]

theorem pay4_col (a : Vec Ideal S1x64 .f32) (e : Fin 64) :
    k0_pay4 (k0_pay25 (k0_pay12 x g) k0_pay13 (k0_pay21 x g)) a (ix2 0 e)
      = a (ix2 0 e) + ∑ r, hot (second (scores x g r)) e := by
  pointwise [k0_pay4]
  simp only [pay25_row]

theorem pay43_col (v98 v100 : FVec Ideal S1024x1 .f32) (a : Vec Ideal S1x64 .f32) (e : Fin 64) :
    k0_pay43 (k0_pay21 x g) (k0_pay25 (k0_pay12 x g) k0_pay13 (k0_pay21 x g)) v98 v100 a (ix2 0 e)
      = a (ix2 0 e) + ∑ r, (hot (best (scores x g r)) e * v98 (ix2 r 0) + hot (second (scores x g r)) e * v100 (ix2 r 0)) := by
  pointwise [k0_pay43]
  simp only [pay21_row, pay25_row]

theorem pay1_col (a : Vec Ideal S1x64 .f32) (e : Fin 64) :
    k0_pay1 (k0_pay19 x g) (k0_pay44 a) (FloatOps.ofBits .f32 0x3F800000#32) (ix2 0 e)
      = a (ix2 0 e) + ∑ r, pz (scores x g r) e * (1 - pz (scores x g r) e) := by
  pointwise [k0_pay1, k0_pay44]
  simp only [pay19_row]

theorem pay2_one (a : Vec Ideal S1x1 .f32) :
    k0_pay2 (k0_pay18 x g) a (ix2 0 0) = a (ix2 0 0) + ∑ r, lse (scores x g r) * lse (scores x g r) := by
  pointwise [k0_pay2]
  simp only [pay18_row]

end Cert.KernelIdeal.Gen

end
-- ==== Proof.GatePoint.lean ====
/-
  THE GATE KERNEL AT A GRID POINT: what its body leaves in each output block, as payloads over the point's input blocks
  and over the two counters as the point finds them; and the input blocks read off their arrays.
-/
module

public import proofs.«01_k».proof.Proof.GateBlock
public import proofs.«01_k».proof.Proof.Gen.KernelIdeal.Frame.Region0
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Gate

namespace Cert.KernelIdeal.Gen

variable (V : (c : Dev nD) → (b : Ref sig .tc) → Buf (Elt Ideal) ((c : Thread nD τ).loc b)) (c : Dev nD)

theorem lt_eight (t : Fin cfg0.N) : t.val < 8 := lt_of_lt_of_eq t.isLt N_0

/-! ## The inputs -/

/-- The token in row `r` of point `t`'s block. -/
def tok (t : Fin cfg0.N) (r : Fin 1024) : Fin 8192 := ⟨t.val * 1024 + r.val, by have := lt_eight t; omega⟩

/-- The scores and the draws of all tokens, off blocked arrays of rows and draws and the gate's weights. -/
def gateOf (x : Vec Ideal S8x1024x768 .f32) (g : Vec Ideal S64x768 .f32) (u : Vec Ideal S8x1024x1 .f32) : Inputs where
  L s e := ∑ k : Fin 768, x (ix3 ⟨s.val / 1024, by omega⟩ ⟨s.val % 1024, by omega⟩ k) * g (ix2 e k)
  u s := u (ix3 ⟨s.val / 1024, by omega⟩ ⟨s.val % 1024, by omega⟩ 0)

/-- The gate's inputs as the kernel is handed them. -/
abbrev gateIn : Inputs := gateOf (V c main_v1) (V c main_arg1) (V c main_v2)

theorem index0_0 : ∀ t : Fin cfg0.N, win0_0.index t 0 = t.val ∧ win0_0.index t 1 = 0 ∧ win0_0.index t 2 = 0 := by
  decide +kernel

theorem index0_1 : ∀ t : Fin cfg0.N, win0_1.index t 0 = 0 ∧ win0_1.index t 1 = 0 := by
  decide +kernel

theorem index0_2 : ∀ t : Fin cfg0.N, win0_2.index t 0 = t.val ∧ win0_2.index t 1 = 0 ∧ win0_2.index t 2 = 0 := by
  decide +kernel

theorem block_x (t : Fin cfg0.N) (r : Fin 1024) (k : Fin 768) :
    iblk0 V c 0 t (ix3 0 r k)
      = V c main_v1 (ix3 ⟨(tok t r).val / 1024, by have := (tok t r).isLt; omega⟩ ⟨(tok t r).val % 1024, by omega⟩ k) := by
  have h : (tok t r).val = t.val * 1024 + r.val := rfl
  have := lt_eight t
  blk_ext [iblk0, index0_0 t, h]

theorem block_g (t : Fin cfg0.N) (e : Fin 64) (k : Fin 768) :
    iblk0 V c 1 t (ix2 e k) = V c main_arg1 (ix2 e k) := by
  blk_ext [iblk0, index0_1 t]

theorem block_u (t : Fin cfg0.N) (r : Fin 1024) :
    iblk0 V c 2 t (ix3 0 r 0) = (gateIn V c).u (tok t r) := by
  have h : (tok t r).val = t.val * 1024 + r.val := rfl
  have := lt_eight t
  unfold gateIn gateOf
  blk_ext [iblk0, index0_2 t, h]

/-- A row's scores are its token's. -/
theorem block_scores (t : Fin cfg0.N) (r : Fin 1024) :
    scores (iblk0 V c 0 t) (iblk0 V c 1 t) r = (gateIn V c).L (tok t r) := by
  funext e
  unfold scores gateIn gateOf
  dsimp only
  exact Finset.sum_congr rfl fun k _ => by rw [block_x, block_g]

/-! ## The outputs -/

/-- The first counter as point `t` finds it. -/
def prior1 (t : Fin cfg0.N) : Vec Ideal S1x64 .f32 :=
  if t.val % 8 = 0 then (k0_pay7 (F := Ideal) : FVec Ideal S1x64 .f32) else (outsAt0 V c (t.val - 1) (Nat.lt_of_le_of_lt (Nat.sub_le _ _) t.isLt)).2.2.2.2.2.2.1

/-- The second counter as point `t` finds it. -/
def prior2 (t : Fin cfg0.N) : Vec Ideal S1x64 .f32 :=
  if t.val % 8 = 0 then (k0_pay8 (F := Ideal) : FVec Ideal S1x64 .f32) else (outsAt0 V c (t.val - 1) (Nat.lt_of_le_of_lt (Nat.sub_le _ _) t.isLt)).2.2.2.2.2.2.2.1

/-- The first gate's weights of a point's rows before capacity. -/
abbrev gates1 (t : Fin cfg0.N) : FVec Ideal S1024x1 .f32 :=
  k0_pay28 (k0_pay12 (iblk0 V c 0 t) (iblk0 V c 1 t)) k0_pay13 (k0_pay17 (iblk0 V c 0 t) (iblk0 V c 1 t))
    (k0_pay21 (iblk0 V c 0 t) (iblk0 V c 1 t)) (k0_pay22 (iblk0 V c 0 t) (iblk0 V c 1 t))

/-- The second gate's weights of a point's rows before capacity. -/
abbrev gates2 (t : Fin cfg0.N) : FVec Ideal S1024x1 .f32 :=
  k0_pay29 (k0_pay12 (iblk0 V c 0 t) (iblk0 V c 1 t)) k0_pay13 (k0_pay17 (iblk0 V c 0 t) (iblk0 V c 1 t))
    (k0_pay21 (iblk0 V c 0 t) (iblk0 V c 1 t)) (k0_pay22 (iblk0 V c 0 t) (iblk0 V c 1 t))

/-- The first choices' ranks. -/
abbrev ranks1 (t : Fin cfg0.N) : FVec Ideal S1024x1 .f32 :=
  k0_pay31 (k0_pay21 (iblk0 V c 0 t) (iblk0 V c 1 t)) (prior1 V c t)

/-- The second choices' ranks. -/
abbrev ranks2 (t : Fin cfg0.N) : FVec Ideal S1024x1 .f32 :=
  k0_pay32 (k0_pay12 (iblk0 V c 0 t) (iblk0 V c 1 t)) k0_pay13 (k0_pay21 (iblk0 V c 0 t) (iblk0 V c 1 t)) (prior2 V c t)

theorem slot1_out (t : Fin cfg0.N) (j : S1x1024x1.Idx) :
    (outsAt0 V c t.val t.isLt).1 j
      = k0_pay37 (k0_pay20 (iblk0 V c 0 t) (iblk0 V c 1 t)) (ranks1 V c t) (FloatOps.ofBits .f32 0x43800000#32) j := by
  by_cases h : t.val % 8 = 0
  · rw [outsAt0_A V c t h]; frame_out; rw [ranks1, prior1, if_pos h]
  · rw [outsAt0_B V c t h]; frame_out; rw [ranks1, prior1, if_neg h]

theorem slot2_out (t : Fin cfg0.N) (j : S1x1024x1.Idx) :
    (outsAt0 V c t.val t.isLt).2.1 j
      = k0_pay38 (k0_pay24 (k0_pay12 (iblk0 V c 0 t) (iblk0 V c 1 t)) k0_pay13 (k0_pay21 (iblk0 V c 0 t) (iblk0 V c 1 t)))
          (gates2 V c t) (ranks2 V c t) (iblk0 V c 2 t) j := by
  by_cases h : t.val % 8 = 0
  · rw [outsAt0_A V c t h]; frame_out; rw [ranks2, prior2, if_pos h]
  · rw [outsAt0_B V c t h]; frame_out; rw [ranks2, prior2, if_neg h]

theorem w1_out (t : Fin cfg0.N) (j : S1x1024x1.Idx) :
    (outsAt0 V c t.val t.isLt).2.2.1 j
      = k0_pay39 (k0_pay35 (gates1 V c t) (ranks1 V c t) (FloatOps.ofBits .f32 0x43800000#32)) j := by
  by_cases h : t.val % 8 = 0
  · rw [outsAt0_A V c t h]; frame_out; rw [ranks1, prior1, if_pos h]
  · rw [outsAt0_B V c t h]; frame_out; rw [ranks1, prior1, if_neg h]

theorem w2_out (t : Fin cfg0.N) (j : S1x1024x1.Idx) :
    (outsAt0 V c t.val t.isLt).2.2.2.1 j
      = k0_pay40 (k0_pay36 (gates2 V c t) (ranks2 V c t) (iblk0 V c 2 t)) j := by
  by_cases h : t.val % 8 = 0
  · rw [outsAt0_A V c t h]; frame_out; rw [ranks2, prior2, if_pos h]
  · rw [outsAt0_B V c t h]; frame_out; rw [ranks2, prior2, if_neg h]

end Cert.KernelIdeal.Gen

end
-- ==== Proof.GateSums.lean ====
/-
  THE GATE KERNEL'S RUNNING SUMS over all tokens, block by block: the counters at every point, hence every token's rank,
  and the five sums the kernel returns.
-/
module

public import proofs.«01_k».proof.Proof.GatePoint

@[expose] public section

set_option maxRecDepth 16384

noncomputable section

open Idealize.ShloMosaic Idealize.ShloMosaic.TcCoe Idealize.SL.Sem
open Idealize.ShloMosaic.Pipeline (Dat)
open Cert.Gate

namespace Cert.KernelIdeal.Gen

variable (V : (c : Dev nD) → (b : Ref sig .tc) → Buf (Elt Ideal) ((c : Thread nD τ).loc b)) (c : Dev nD)

/-- The tokens before `n`. -/
def before (n : ℕ) : Finset (Fin 8192) := Finset.univ.filter fun s => s.val < n

/-- The tokens before point `t`'s block and the block's are the tokens before the next block. -/
theorem sum_before_block {M : Type} [AddCommMonoid M] (F : Fin 8192 → M) (t : Fin cfg0.N) :
    ∑ s ∈ before (t.val * 1024), F s + ∑ r, F (tok t r) = ∑ s ∈ before ((t.val + 1) * 1024), F s := by
  have hu : before ((t.val + 1) * 1024) = before (t.val * 1024) ∪ Finset.univ.image (tok t) := by
    ext s
    simp only [before, Finset.mem_union, Finset.mem_filter, Finset.mem_univ, true_and, Finset.mem_image]
    constructor
    · intro h
      by_cases hs : s.val < t.val * 1024
      · exact .inl hs
      · exact .inr ⟨⟨s.val - t.val * 1024, by omega⟩, Fin.ext (by show t.val * 1024 + (s.val - t.val * 1024) = s.val; omega)⟩
    · rintro (h | ⟨r, rfl⟩)
      · omega
      · show t.val * 1024 + r.val < _
        have := r.isLt
        omega
  have hd : Disjoint (before (t.val * 1024)) (Finset.univ.image (tok t)) := by
    rw [Finset.disjoint_left]
    intro s hs h
    obtain ⟨r, -, rfl⟩ := Finset.mem_image.mp h
    have : t.val * 1024 + r.val < t.val * 1024 := (Finset.mem_filter.mp hs).2
    omega
  rw [hu, Finset.sum_union hd, Finset.sum_image fun a _ b _ h => Fin.ext (by
    have : t.val * 1024 + a.val = t.val * 1024 + b.val := congrArg Fin.val h
    omega)]

theorem before_zero : before (0 * 1024) = ∅ := Finset.filter_eq_empty_iff.mpr fun s _ => by omega

theorem before_all : before ((7 + 1) * 1024) = Finset.univ := Finset.filter_eq_self.mpr fun s _ => by omega

/-- A running sum: at the first point from zero, at a later one from what the point before left. -/
theorem running (a : (n : ℕ) → n < cfg0.N → EReal) (F : Fin 8192 → EReal)
    (hA : ∀ t : Fin cfg0.N, t.val % 8 = 0 → a t.val t.isLt = 0 + ∑ r, F (tok t r))
    (hB : ∀ t : Fin cfg0.N, ¬ t.val % 8 = 0 →
      a t.val t.isLt = a (t.val - 1) (Nat.lt_of_le_of_lt (Nat.sub_le _ _) t.isLt) + ∑ r, F (tok t r)) :
    ∀ (n : ℕ) (h : n < cfg0.N), a n h = ∑ s ∈ before ((n + 1) * 1024), F s
  | 0, h => by
    have := hA ⟨0, h⟩ rfl
    rw [← sum_before_block F ⟨0, h⟩]
    show a 0 h = ∑ s ∈ before (0 * 1024), F s + _
    rw [before_zero, Finset.sum_empty]
    exact this
  | n + 1, h => by
    have h8 : n + 1 < 8 := lt_eight ⟨n + 1, h⟩
    have := hB ⟨n + 1, h⟩ (by show ¬ (n + 1) % 8 = 0; omega)
    rw [← sum_before_block F ⟨n + 1, h⟩]
    show a (n + 1) h = ∑ s ∈ before ((n + 1) * 1024), F s + _
    rw [← running a F hA hB n (by omega)]
    exact this

/-! ## The counters -/

theorem zero7 (e : Fin 64) : k0_pay7 (F := Ideal) (ix2 0 e) = 0 := by pointwise [k0_pay7]
theorem zero8 (e : Fin 64) : k0_pay8 (F := Ideal) (ix2 0 e) = 0 := by pointwise [k0_pay8]

theorem count1 (e : Fin 64) (n : ℕ) (h : n < cfg0.N) :
    (outsAt0 V c n h).2.2.2.2.2.2.1 (ix2 0 e) = ∑ s ∈ before ((n + 1) * 1024), hot ((gateIn V c).e1 s) e := by
  refine running (fun n h => (outsAt0 V c n h).2.2.2.2.2.2.1 (ix2 0 e)) _ (fun t h => ?_) (fun t h => ?_) n h
  · rw [outsAt0_A V c t h]; frame_out
    rw [pay3_col, zero7]
    simp only [block_scores]
    rfl
  · rw [outsAt0_B V c t h]; frame_out
    rw [pay3_col]
    simp only [block_scores]
    rfl

theorem count2 (e : Fin 64) (n : ℕ) (h : n < cfg0.N) :
    (outsAt0 V c n h).2.2.2.2.2.2.2.1 (ix2 0 e) = ∑ s ∈ before ((n + 1) * 1024), hot ((gateIn V c).e2 s) e := by
  refine running (fun n h => (outsAt0 V c n h).2.2.2.2.2.2.2.1 (ix2 0 e)) _ (fun t h => ?_) (fun t h => ?_) n h
  · rw [outsAt0_A V c t h]; frame_out
    rw [pay4_col, zero8]
    simp only [block_scores]
    rfl
  · rw [outsAt0_B V c t h]; frame_out
    rw [pay4_col]
    simp only [block_scores]
    rfl

theorem prior1_col (t : Fin cfg0.N) (e : Fin 64) :
    prior1 V c t (ix2 0 e) = ∑ s ∈ before (t.val * 1024), hot ((gateIn V c).e1 s) e := by
  have h8 := lt_eight t
  unfold prior1
  by_cases h : t.val % 8 = 0
  · rw [if_pos h, zero7, show t.val * 1024 = 0 * 1024 by omega, before_zero, Finset.sum_empty]
  · rw [if_neg h, count1, show t.val - 1 + 1 = t.val by omega]

theorem prior2_col (t : Fin cfg0.N) (e : Fin 64) :
    prior2 V c t (ix2 0 e) = ∑ s ∈ before (t.val * 1024), hot ((gateIn V c).e2 s) e := by
  have h8 := lt_eight t
  unfold prior2
  by_cases h : t.val % 8 = 0
  · rw [if_pos h, zero8, show t.val * 1024 = 0 * 1024 by omega, before_zero, Finset.sum_empty]
  · rw [if_neg h, count2, show t.val - 1 + 1 = t.val by omega]

/-- The count within the block and the count before it make the rank. -/
theorem rank_split (a : Fin 8192 → Fin 64) (t : Fin cfg0.N) (r : Fin 1024) :
    ((blockRank (fun s => a (tok t s)) r : ℕ) : EReal) + ∑ s ∈ before (t.val * 1024), hot (a s) (a (tok t r))
      = ((rank a (tok t r) : ℕ) : EReal) := by
  have hle (s : Fin 1024) : tok t s ≤ tok t r ↔ s ≤ r := by
    show t.val * 1024 + s.val ≤ t.val * 1024 + r.val ↔ s.val ≤ r.val
    omega
  have h0 : ∑ s ∈ before (t.val * 1024), hot (a s) (a (tok t r))
      = ((∑ s ∈ before (t.val * 1024), if s ≤ tok t r ∧ a s = a (tok t r) then 1 else 0 : ℕ) : EReal) := by
    rw [Nat.cast_sum]
    refine Finset.sum_congr rfl fun s hs => ?_
    have h1 : s.val < t.val * 1024 := (Finset.mem_filter.mp hs).2
    have h2 : s ≤ tok t r := by
      show s.val ≤ t.val * 1024 + r.val
      omega
    by_cases h : a s = a (tok t r) <;> simp [hot, h, h2, eq_comm (a := a (tok t r))]
  have h3 : rank a (tok t r) = ∑ s ∈ before ((t.val + 1) * 1024), if s ≤ tok t r ∧ a s = a (tok t r) then 1 else 0 := by
    rw [rank, Finset.card_filter]
    refine (Finset.sum_subset (Finset.subset_univ _) fun s _ hs => if_neg fun h => hs ?_).symm
    refine Finset.mem_filter.mpr ⟨Finset.mem_univ s, ?_⟩
    have h4 : s.val ≤ t.val * 1024 + r.val := h.1
    have := r.isLt
    omega
  have h5 : blockRank (fun s => a (tok t s)) r
      = ∑ s : Fin 1024, if tok t s ≤ tok t r ∧ a (tok t s) = a (tok t r) then 1 else 0 :=
    Finset.sum_congr rfl fun s _ => if_congr (by rw [hle]) rfl rfl
  rw [h0, h3, h5, ← sum_before_block (fun s => if s ≤ tok t r ∧ a s = a (tok t r) then 1 else 0), Nat.cast_add, add_comm]

theorem ranks1_row (t : Fin cfg0.N) (r : Fin 1024) :
    ranks1 V c t (ix2 r 0) = ((rank (gateIn V c).e1 (tok t r) : ℕ) : EReal) := by
  rw [ranks1, pay31_row, prior1_col]
  simp only [block_scores]
  exact rank_split (gateIn V c).e1 t r

theorem ranks2_row (t : Fin cfg0.N) (r : Fin 1024) :
    ranks2 V c t (ix2 r 0) = ((rank (gateIn V c).e2 (tok t r) : ℕ) : EReal) := by
  rw [ranks2, pay32_row, prior2_col]
  simp only [block_scores]
  exact rank_split (gateIn V c).e2 t r

/-! ## The outputs of a row -/

theorem slot1_row (t : Fin cfg0.N) (r : Fin 1024) :
    (outsAt0 V c t.val t.isLt).1 (ix3 0 r 0) = BitVec.ofNat 32 ((gateIn V c).cell1 (tok t r)) := by
  rw [slot1_out, pay37_row _ _ r ((gateIn V c).e1 (tok t r)) (rank (gateIn V c).e1 (tok t r)) (rank_pos _ _) (rank_le _ _)
    (by rw [pay20_row, block_scores]; rfl) (ranks1_row V c t r)]
  by_cases h : (gateIn V c).keep1 (tok t r)
  · rw [Inputs.cell1, if_pos h]
    exact congrArg _ (if_pos (show rank (gateIn V c).e1 (tok t r) ≤ 256 from h))
  · rw [Inputs.cell1, if_neg h]
    exact congrArg _ (if_neg (show ¬ (rank (gateIn V c).e1 (tok t r) ≤ 256) from h))

theorem gates1_row (t : Fin cfg0.N) (r : Fin 1024) : gates1 V c t (ix2 r 0) = n1 ((gateIn V c).L (tok t r)) := by
  rw [gates1, pay28_row, block_scores]

theorem gates2_row (t : Fin cfg0.N) (r : Fin 1024) : gates2 V c t (ix2 r 0) = n2 ((gateIn V c).L (tok t r)) := by
  rw [gates2, pay29_row, block_scores]

theorem slot2_row (t : Fin cfg0.N) (r : Fin 1024) :
    (outsAt0 V c t.val t.isLt).2.1 (ix3 0 r 0) = BitVec.ofNat 32 ((gateIn V c).cell2 (tok t r)) := by
  rw [slot2_out, pay38_row _ _ _ _ r ((gateIn V c).e2 (tok t r)) (rank (gateIn V c).e2 (tok t r)) (rank_pos _ _) (rank_le _ _)
    (by rw [pay24_row, block_scores]; rfl) (ranks2_row V c t r), gates2_row, block_u]
  by_cases h : (gateIn V c).keep2 (tok t r)
  · rw [Inputs.cell2, if_pos h]
    exact congrArg _ (if_pos (show rank (gateIn V c).e2 (tok t r) ≤ 256 ∧ (gateIn V c).u (tok t r) < 2 * n2 ((gateIn V c).L (tok t r)) from h))
  · rw [Inputs.cell2, if_neg h]
    exact congrArg _ (if_neg (show ¬ (rank (gateIn V c).e2 (tok t r) ≤ 256 ∧ (gateIn V c).u (tok t r) < 2 * n2 ((gateIn V c).L (tok t r))) from h))

theorem weight1_row (t : Fin cfg0.N) (r : Fin 1024) :
    k0_pay35 (gates1 V c t) (ranks1 V c t) (FloatOps.ofBits .f32 0x43800000#32) (ix2 r 0) = (gateIn V c).w1 (tok t r) := by
  rw [pay35_row _ _ r _ (ranks1_row V c t r), gates1_row]
  by_cases h : (gateIn V c).keep1 (tok t r)
  · rw [Inputs.w1, if_pos h]
    exact if_pos (show rank (gateIn V c).e1 (tok t r) ≤ 256 from h)
  · rw [Inputs.w1, if_neg h]
    exact if_neg (show ¬ (rank (gateIn V c).e1 (tok t r) ≤ 256) from h)

theorem weight2_row (t : Fin cfg0.N) (r : Fin 1024) :
    k0_pay36 (gates2 V c t) (ranks2 V c t) (iblk0 V c 2 t) (ix2 r 0) = (gateIn V c).w2 (tok t r) := by
  rw [pay36_row _ _ _ r _ (ranks2_row V c t r), gates2_row, block_u]
  by_cases h : (gateIn V c).keep2 (tok t r)
  · rw [Inputs.w2, if_pos h]
    exact if_pos (show rank (gateIn V c).e2 (tok t r) ≤ 256 ∧ (gateIn V c).u (tok t r) < 2 * n2 ((gateIn V c).L (tok t r)) from h)
  · rw [Inputs.w2, if_neg h]
    exact if_neg (show ¬ (rank (gateIn V c).e2 (tok t r) ≤ 256 ∧ (gateIn V c).u (tok t r) < 2 * n2 ((gateIn V c).L (tok t r))) from h)

/-! ## The other sums -/

theorem zero5 (e : Fin 64) : k0_pay5 (F := Ideal) (ix2 0 e) = 0 := by pointwise [k0_pay5]
theorem zero6 (e : Fin 64) : k0_pay6 (F := Ideal) (ix2 0 e) = 0 := by pointwise [k0_pay6]
theorem zero9 (e : Fin 64) : k0_pay9 (F := Ideal) (ix2 0 e) = 0 := by pointwise [k0_pay9]
theorem zero10 (e : Fin 64) : k0_pay10 (F := Ideal) (ix2 0 e) = 0 := by pointwise [k0_pay10]
theorem zero11 : k0_pay11 (F := Ideal) (ix2 0 0) = 0 := by pointwise [k0_pay11]

theorem sum_pm (e : Fin 64) (n : ℕ) (h : n < cfg0.N) :
    (outsAt0 V c n h).2.2.2.2.1 (ix2 0 e) = ∑ s ∈ before ((n + 1) * 1024), pz ((gateIn V c).L s) e := by
  refine running (fun n h => (outsAt0 V c n h).2.2.2.2.1 (ix2 0 e)) _ (fun t h => ?_) (fun t h => ?_) n h
  · rw [outsAt0_A V c t h]; frame_out
    rw [pay41_col, zero5]
    simp only [block_scores]
  · rw [outsAt0_B V c t h]; frame_out
    rw [pay41_col]
    simp only [block_scores]

theorem sum_ps (e : Fin 64) (n : ℕ) (h : n < cfg0.N) :
    (outsAt0 V c n h).2.2.2.2.2.1 (ix2 0 e) = ∑ s ∈ before ((n + 1) * 1024), soft ((gateIn V c).L s) e := by
  refine running (fun n h => (outsAt0 V c n h).2.2.2.2.2.1 (ix2 0 e)) _ (fun t h => ?_) (fun t h => ?_) n h
  · rw [outsAt0_A V c t h]; frame_out
    rw [pay42_col, zero6]
    simp only [block_scores]
  · rw [outsAt0_B V c t h]; frame_out
    rw [pay42_col]
    simp only [block_scores]

theorem sum_imp (e : Fin 64) (n : ℕ) (h : n < cfg0.N) :
    (outsAt0 V c n h).2.2.2.2.2.2.2.2.1 (ix2 0 e) = ∑ s ∈ before ((n + 1) * 1024), (gateIn V c).gate s e := by
  refine running (fun n h => (outsAt0 V c n h).2.2.2.2.2.2.2.2.1 (ix2 0 e)) _ (fun t h => ?_) (fun t h => ?_) n h
  · have hw1 := fun r => weight1_row V c t r
    have hw2 := fun r => weight2_row V c t r
    unfold ranks1 prior1 at hw1
    unfold ranks2 prior2 at hw2
    rw [if_pos h] at hw1 hw2
    rw [outsAt0_A V c t h]; frame_out
    rw [pay43_col, zero9]
    simp only [block_scores, hw1, hw2]
    rfl
  · have hw1 := fun r => weight1_row V c t r
    have hw2 := fun r => weight2_row V c t r
    unfold ranks1 prior1 at hw1
    unfold ranks2 prior2 at hw2
    rw [if_neg h] at hw1 hw2
    rw [outsAt0_B V c t h]; frame_out
    rw [pay43_col]
    simp only [block_scores, hw1, hw2]
    rfl

theorem sum_pen (e : Fin 64) (n : ℕ) (h : n < cfg0.N) :
    (outsAt0 V c n h).2.2.2.2.2.2.2.2.2.1 (ix2 0 e)
      = ∑ s ∈ before ((n + 1) * 1024), pz ((gateIn V c).L s) e * (1 - pz ((gateIn V c).L s) e) := by
  refine running (fun n h => (outsAt0 V c n h).2.2.2.2.2.2.2.2.2.1 (ix2 0 e)) _ (fun t h => ?_) (fun t h => ?_) n h
  · rw [outsAt0_A V c t h]; frame_out
    rw [pay1_col, zero10]
    simp only [block_scores]
  · rw [outsAt0_B V c t h]; frame_out
    rw [pay1_col]
    simp only [block_scores]

theorem sum_z (n : ℕ) (h : n < cfg0.N) :
    (outsAt0 V c n h).2.2.2.2.2.2.2.2.2.2 (ix2 0 0)
      = ∑ s ∈ before ((n + 1) * 1024), lse ((gateIn V c).L s) * lse ((gateIn V c).L s) := by
  refine running (fun n h => (outsAt0 V c n h).2.2.2.2.2.2.2.2.2.2 (ix2 0 0)) _ (fun t h => ?_) (fun t h => ?_) n h
  · rw [outsAt0_A V c t h]; frame_out
    rw [pay2_one, zero11]
    simp only [block_scores]
  · rw [outsAt0_B V c t h]; frame_out
    rw [pay2_one]
    simp only [block_scores]

end Cert.KernelIdeal.Gen

end
-- ==== Proof.GateArrays.lean ====
/-
  THE GATE KERNEL'S RESULT ARRAYS, as functions of the arrays it is handed: cells and weights of every token's two
  choices, and the sums over all tokens.
-/
module

public import proofs.«01_k».proof.Proof.GateSums

@[expose] public section

set_option maxRecDepth 16384

noncomputable section

open Idealize.ShloMosaic Idealize.ShloMosaic.TcCoe Idealize.SL.Sem
open Idealize.ShloMosaic.Pipeline (Dat)
open Cert.Gate

namespace Cert.KernelIdeal.Gen

variable (V : (c : Dev nD) → (b : Ref sig .tc) → Buf (Elt Ideal) ((c : Thread nD τ).loc b)) (c : Dev nD)

/-- The token at a place of a blocked array. -/
def tokAt (i : S8x1024x1.Idx) : Fin 8192 :=
  ⟨(i 0).val * 1024 + (i 1).val, by
    have h0 : (i 0).val < 8 := (i 0).isLt
    have h1 : (i 1).val < 1024 := (i 1).isLt
    omega⟩

theorem index0_3 : ∀ t : Fin cfg0.N, win0_3.index t 0 = t.val ∧ win0_3.index t 1 = 0 ∧ win0_3.index t 2 = 0 := by
  decide +kernel

/-- The first choices' cells. -/
theorem array_slot1 : (dat0 V c).arrAt 3 cfg0.N = fun i : S8x1024x1.Idx => BitVec.ofNat 32 ((gateIn V c).cell1 (tokAt i)) := by
  refine (dat0 V c).arrAt_eq_of_covers 3 _ (by decide +kernel) fun t hf y => ?_
  blk_simp
  rw [after0_3]
  obtain ⟨r, hr⟩ : ∃ r : Fin 1024, y = ix3 0 r 0 := ⟨y 1, (eq_ix3 y).trans (by
    rw [Subsingleton.elim (α := Fin 1) (y 0) 0, Subsingleton.elim (α := Fin 1) (y 2) 0])⟩
  have ht : tokAt ((win0_3.blk t).view.emb y) = tok t r := by
    refine Fin.ext ?_
    show ((win0_3.blk t).view.emb y 0).val * 1024 + ((win0_3.blk t).view.emb y 1).val = t.val * 1024 + r.val
    subst hr
    blk_simp [index0_3 t]
    omega
  rw [ht, hr]
  exact slot1_row V c t r

theorem index0_4 : ∀ t : Fin cfg0.N, win0_4.index t 0 = t.val ∧ win0_4.index t 1 = 0 ∧ win0_4.index t 2 = 0 := by
  decide +kernel

/-- The second choices' cells. -/
theorem array_slot2 : (dat0 V c).arrAt 4 cfg0.N = fun i : S8x1024x1.Idx => BitVec.ofNat 32 ((gateIn V c).cell2 (tokAt i)) := by
  refine (dat0 V c).arrAt_eq_of_covers 4 _ (by decide +kernel) fun t hf y => ?_
  blk_simp
  rw [after0_4]
  obtain ⟨r, hr⟩ : ∃ r : Fin 1024, y = ix3 0 r 0 := ⟨y 1, (eq_ix3 y).trans (by
    rw [Subsingleton.elim (α := Fin 1) (y 0) 0, Subsingleton.elim (α := Fin 1) (y 2) 0])⟩
  have ht : tokAt ((win0_4.blk t).view.emb y) = tok t r := by
    refine Fin.ext ?_
    show ((win0_4.blk t).view.emb y 0).val * 1024 + ((win0_4.blk t).view.emb y 1).val = t.val * 1024 + r.val
    subst hr
    blk_simp [index0_4 t]
    omega
  rw [ht, hr]
  exact slot2_row V c t r

theorem index0_5 : ∀ t : Fin cfg0.N, win0_5.index t 0 = t.val ∧ win0_5.index t 1 = 0 ∧ win0_5.index t 2 = 0 := by
  decide +kernel

/-- The first choices' weights. -/
theorem array_w1 : (dat0 V c).arrAt 5 cfg0.N = fun i : S8x1024x1.Idx => (gateIn V c).w1 (tokAt i) := by
  refine (dat0 V c).arrAt_eq_of_covers 5 _ (by decide +kernel) fun t hf y => ?_
  blk_simp
  rw [after0_5]
  obtain ⟨r, hr⟩ : ∃ r : Fin 1024, y = ix3 0 r 0 := ⟨y 1, (eq_ix3 y).trans (by
    rw [Subsingleton.elim (α := Fin 1) (y 0) 0, Subsingleton.elim (α := Fin 1) (y 2) 0])⟩
  have ht : tokAt ((win0_5.blk t).view.emb y) = tok t r := by
    refine Fin.ext ?_
    show ((win0_5.blk t).view.emb y 0).val * 1024 + ((win0_5.blk t).view.emb y 1).val = t.val * 1024 + r.val
    subst hr
    blk_simp [index0_5 t]
    omega
  rw [ht, hr]
  exact (w1_out V c t (ix3 0 r 0)).trans ((pay39_row _ r).trans (weight1_row V c t r))

theorem index0_6 : ∀ t : Fin cfg0.N, win0_6.index t 0 = t.val ∧ win0_6.index t 1 = 0 ∧ win0_6.index t 2 = 0 := by
  decide +kernel

/-- The second choices' weights. -/
theorem array_w2 : (dat0 V c).arrAt 6 cfg0.N = fun i : S8x1024x1.Idx => (gateIn V c).w2 (tokAt i) := by
  refine (dat0 V c).arrAt_eq_of_covers 6 _ (by decide +kernel) fun t hf y => ?_
  blk_simp
  rw [after0_6]
  obtain ⟨r, hr⟩ : ∃ r : Fin 1024, y = ix3 0 r 0 := ⟨y 1, (eq_ix3 y).trans (by
    rw [Subsingleton.elim (α := Fin 1) (y 0) 0, Subsingleton.elim (α := Fin 1) (y 2) 0])⟩
  have ht : tokAt ((win0_6.blk t).view.emb y) = tok t r := by
    refine Fin.ext ?_
    show ((win0_6.blk t).view.emb y 0).val * 1024 + ((win0_6.blk t).view.emb y 1).val = t.val * 1024 + r.val
    subst hr
    blk_simp [index0_6 t]
    omega
  rw [ht, hr]
  exact (w2_out V c t (ix3 0 r 0)).trans ((pay40_row _ r).trans (weight2_row V c t r))

/-- The scaled softmax summed over all tokens. -/
theorem array_pm : (dat0 V c).arrAt 7 cfg0.N = fun i : S1x64.Idx => ∑ s, pz ((gateIn V c).L s) (i 1) := by
  refine (dat0 V c).arrAt_eq_of_after_last 7 t0_7 (by decide +kernel) _ fun y => ?_
  blk_simp
  rw [after0_7]
  obtain ⟨e, rfl⟩ : ∃ e : Fin 64, y = ix2 0 e := ⟨y 1, (eq_ix2 y).trans (by
    rw [Subsingleton.elim (α := Fin 1) (y 0) 0])⟩
  refine (sum_pm V c e t0_7.val t0_7.isLt).trans ?_
  rw [show before ((t0_7.val + 1) * 1024) = Finset.univ from before_all]
  rfl

/-- The softmax summed over all tokens. -/
theorem array_ps : (dat0 V c).arrAt 8 cfg0.N = fun i : S1x64.Idx => ∑ s, soft ((gateIn V c).L s) (i 1) := by
  refine (dat0 V c).arrAt_eq_of_after_last 8 t0_7 (by decide +kernel) _ fun y => ?_
  blk_simp
  rw [after0_8]
  obtain ⟨e, rfl⟩ : ∃ e : Fin 64, y = ix2 0 e := ⟨y 1, (eq_ix2 y).trans (by
    rw [Subsingleton.elim (α := Fin 1) (y 0) 0])⟩
  refine (sum_ps V c e t0_7.val t0_7.isLt).trans ?_
  rw [show before ((t0_7.val + 1) * 1024) = Finset.univ from before_all]
  rfl

/-- The first choices, counted by expert, summed over all tokens. -/
theorem array_count1 : (dat0 V c).arrAt 9 cfg0.N = fun i : S1x64.Idx => ∑ s, hot ((gateIn V c).e1 s) (i 1) := by
  refine (dat0 V c).arrAt_eq_of_after_last 9 t0_7 (by decide +kernel) _ fun y => ?_
  blk_simp
  rw [after0_9]
  obtain ⟨e, rfl⟩ : ∃ e : Fin 64, y = ix2 0 e := ⟨y 1, (eq_ix2 y).trans (by
    rw [Subsingleton.elim (α := Fin 1) (y 0) 0])⟩
  refine (count1 V c e t0_7.val t0_7.isLt).trans ?_
  rw [show before ((t0_7.val + 1) * 1024) = Finset.univ from before_all]
  rfl

/-- The weight every expert is given summed over all tokens. -/
theorem array_imp : (dat0 V c).arrAt 11 cfg0.N = fun i : S1x64.Idx => ∑ s, (gateIn V c).gate s (i 1) := by
  refine (dat0 V c).arrAt_eq_of_after_last 11 t0_7 (by decide +kernel) _ fun y => ?_
  blk_simp
  rw [after0_11]
  obtain ⟨e, rfl⟩ : ∃ e : Fin 64, y = ix2 0 e := ⟨y 1, (eq_ix2 y).trans (by
    rw [Subsingleton.elim (α := Fin 1) (y 0) 0])⟩
  refine (sum_imp V c e t0_7.val t0_7.isLt).trans ?_
  rw [show before ((t0_7.val + 1) * 1024) = Finset.univ from before_all]
  rfl

/-- The scaled softmax times its complement summed over all tokens. -/
theorem array_pen : (dat0 V c).arrAt 12 cfg0.N = fun i : S1x64.Idx => ∑ s, pz ((gateIn V c).L s) (i 1) * (1 - pz ((gateIn V c).L s) (i 1)) := by
  refine (dat0 V c).arrAt_eq_of_after_last 12 t0_7 (by decide +kernel) _ fun y => ?_
  blk_simp
  rw [after0_12]
  obtain ⟨e, rfl⟩ : ∃ e : Fin 64, y = ix2 0 e := ⟨y 1, (eq_ix2 y).trans (by
    rw [Subsingleton.elim (α := Fin 1) (y 0) 0])⟩
  refine (sum_pen V c e t0_7.val t0_7.isLt).trans ?_
  rw [show before ((t0_7.val + 1) * 1024) = Finset.univ from before_all]
  rfl

/-- The squared log-sum-exp summed over all tokens. -/
theorem array_z : (dat0 V c).arrAt 13 cfg0.N
    = fun _ : S1x1.Idx => ∑ s, lse ((gateIn V c).L s) * lse ((gateIn V c).L s) := by
  refine (dat0 V c).arrAt_eq_of_after_last 13 t0_7 (by decide +kernel) _ fun y => ?_
  blk_simp
  rw [after0_13]
  obtain rfl : y = ix2 0 0 := (eq_ix2 y).trans (by
    rw [Subsingleton.elim (α := Fin 1) (y 0) 0, Subsingleton.elim (α := Fin 1) (y 1) 0])
  refine (sum_z V c t0_7.val t0_7.isLt).trans ?_
  rw [show before ((t0_7.val + 1) * 1024) = Finset.univ from before_all]

end Cert.KernelIdeal.Gen

end
-- ==== Proof.HostIn.lean ====
/-
  WHAT REACHES THE GATE: the arrays the first launch reads, named by the program's arguments, and so the gate problem the
  launch solves.
-/
module

public import proofs.«01_k».proof.Proof.RunResults
public import proofs.«01_k».proof.Proof.GateArrays
public import proofs.«01_k».proof.Proof.Problem
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open Cert.Gate

namespace Cert.KernelIdeal.Gen

variable (m : (ℓ : Loc nD τ sig) → Buf (Elt Ideal) ℓ) (ρ : Dev nD → PrngReg) (c : Dev nD)

/-- The rows of the input in the order of the first launch's blocks. -/
theorem W1_rows (b : Fin 8) (r : Fin 1024) (k : Fin 768) : W1 m ρ c main_v1 (ix3 b r k)
    = W0 m ρ c main_arg0 (ix3 ⟨(b.val * 1024 + r.val) / 4096, by omega⟩ ⟨(b.val * 1024 + r.val) % 4096, by omega⟩ k) := by
  unfold W1
  after_reads_at

/-- The draws in the order of the first launch's blocks. -/
theorem W1_draws (b : Fin 8) (r : Fin 1024) : W1 m ρ c main_v2 (ix3 b r (0 : Fin 1))
    = W0 m ρ c main_arg6 (ix1 ⟨b.val * 1024 + r.val, by omega⟩) := by
  unfold W1
  after_reads_at

/-- The gate problem of the program's arguments. -/
abbrev asked : Inputs := problem (W0 m ρ c main_arg0) (W0 m ρ c main_arg1) (W0 m ρ c main_arg6)

/-- The launch solves it. -/
theorem gateIn_eq : gateIn (V1 m ρ) c = asked m ρ c := by
  have hx (s : Fin 8192) (k : Fin 768) : V1 m ρ c main_v1 (ix3 ⟨s.val / 1024, by omega⟩ ⟨s.val % 1024, by omega⟩ k)
      = W0 m ρ c main_arg0 (ix3 ⟨s.val / 4096, by omega⟩ ⟨s.val % 4096, by omega⟩ k) := by
    refine (W1_rows m ρ c _ _ k).trans ?_
    refine congrArg (W0 m ρ c main_arg0) ?_
    have h : s.val / 1024 * 1024 + s.val % 1024 = s.val := by omega
    simp only [h]
  have hu (s : Fin 8192) : V1 m ρ c main_v2 (ix3 ⟨s.val / 1024, by omega⟩ ⟨s.val % 1024, by omega⟩ (0 : Fin 1))
      = W0 m ρ c main_arg6 (ix1 s) := by
    refine (W1_draws m ρ c _ _).trans ?_
    refine congrArg (W0 m ρ c main_arg6) ?_
    have h : s.val / 1024 * 1024 + s.val % 1024 = s.val := by omega
    simp only [h]
  have hg : V1 m ρ c main_arg1 = W0 m ρ c main_arg1 := W1_args m ρ c _ (by decide)
  show Inputs.mk _ _ = Inputs.mk _ _
  congr 1
  · funext s e
    refine Finset.sum_congr rfl fun k _ => ?_
    refine congrArg₂ (fun a b : EReal => a * b) (hx s k) ?_
    exact congrFun hg (ix2 e k)
  · funext s
    exact hu s

end Cert.KernelIdeal.Gen

end
-- ==== Proof.Losses.lean ====
/-
  THE AUXILIARY LOSS AS MATHEMATICS: the four terms both programs add up, over all tokens' scores.
-/
module

public import proofs.«01_k».proof.Proof.Model

@[expose] public section

noncomputable section

open Idealize.ShloMosaic

namespace Cert.Gate

/-- The number of tokens, as the programs divide by it. -/
abbrev nTok : EReal := Ideal.ofBits .f32 0x46000000#32

/-- The number of experts, as the programs divide by it. -/
abbrev nExp : EReal := Ideal.ofBits .f32 0x42800000#32

/-- The sharpness and spread of the softmax over the temperature. -/
def sharpness (I : Inputs) : EReal :=
  Ideal.ofBits .f32 0x3C23D70A#32
    * (Ideal.div (∑ s, ∑ e, pz (I.L s) e * (1 - pz (I.L s) e)) (Ideal.ofBits .f32 0x49000000#32)
      + (Ideal.ofBits .f32 0x3C800000#32
        - Ideal.div (∑ e, Ideal.div (∑ s, pz (I.L s) e) nTok * (1 - Ideal.div (∑ s, pz (I.L s) e) nTok)) nExp))

/-- The mean square of the log-sum-exp. -/
def zTerm (I : Inputs) : EReal := Ideal.ofBits .f32 0x3A83126F#32 * Ideal.div (∑ s, lse (I.L s) * lse (I.L s)) nTok

/-- The share of first choices against the mean softmax. -/
def loadTerm (I : Inputs) : EReal :=
  Ideal.ofBits .f32 0x3F23D70A#32
    * ∑ e, Ideal.div (∑ s, hot (I.e1 s) e) nTok * Ideal.div (∑ s, soft (I.L s) e) nTok

/-- A row's variance over the square of its mean. -/
def variation (v : Row) : EReal :=
  Ideal.div
    (Ideal.div (∑ e, (v e - Ideal.div (∑ e, v e) nExp) * (v e - Ideal.div (∑ e, v e) nExp)) (nExp - FloatOps.sitofp (F := Ideal) .f32 0#32))
    (Ideal.div (∑ e, v e) nExp * Ideal.div (∑ e, v e) nExp)

/-- The variation of the experts' total gates. -/
def importance (I : Inputs) : EReal := Ideal.ofBits .f32 0x3C23D70A#32 * variation fun e => ∑ s, I.gate s e

/-- The auxiliary loss. -/
def auxLoss (I : Inputs) : EReal := sharpness I + zTerm I + loadTerm I + importance I

/-- The count the variance divides by is positive. -/
theorem count_pos : (0 : EReal) < nExp - FloatOps.sitofp (F := Ideal) .f32 0#32 := by
  rw [show FloatOps.sitofp (F := Ideal) .f32 0#32 = ((0 : ℝ) : EReal) from by
    show (((0#32 : BitVec 32).toInt : ℝ) : EReal) = _
    simp, show nExp = ((64 : ℝ) : EReal) from by
    simp [nExp, Ideal.ofBits, Ideal.ieee, -EReal.coe_mul]; norm_num, ← EReal.coe_sub]
  exact_mod_cast (by norm_num : (0 : ℝ) < 64 - 0)

/-- Multiplication passes a division. -/
theorem mul_div (a b c : EReal) (hc : c ≠ 0) : Ideal.div (a * b) c = a * Ideal.div b c := by
  rw [Ideal.div, Ideal.div, if_neg hc, if_neg hc, mul_assoc]

end Cert.Gate

end
-- ==== Proof.KernelAux.lean ====
/-
  THE KERNEL'S AUXILIARY LOSS: the host operations after the first launch, over the sums the launch returned.
-/
module

public import proofs.«01_k».proof.Proof.HostIn
public import proofs.«01_k».proof.Proof.Losses

@[expose] public section

set_option maxRecDepth 16384

noncomputable section

open Idealize.ShloMosaic Idealize.ShloMosaic.TcCoe Idealize.SL.Sem
open Idealize.ShloMosaic.Pipeline (Dat)
open Cert.Gate

namespace Cert.KernelIdeal.Gen

variable (m : (ℓ : Loc nD τ sig) → Buf (Elt Ideal) ℓ) (ρ : Dev nD → PrngReg) (c : Dev nD)

/-! ## The first launch's arrays, over the arguments -/

theorem W2_slot1 : W2 m ρ c (Proc.devRef .tc main_v3_0) = fun i => BitVec.ofNat 32 ((asked m ρ c).cell1 (tokAt i)) :=
  (W2_arr m ρ c 3).trans ((array_slot1 (V1 m ρ) c).trans (by rw [gateIn_eq]))

theorem W2_slot2 : W2 m ρ c (Proc.devRef .tc main_v3_1) = fun i => BitVec.ofNat 32 ((asked m ρ c).cell2 (tokAt i)) :=
  (W2_arr m ρ c 4).trans ((array_slot2 (V1 m ρ) c).trans (by rw [gateIn_eq]))

theorem W2_w1 : W2 m ρ c (Proc.devRef .tc main_v3_2) = fun i => (asked m ρ c).w1 (tokAt i) :=
  (W2_arr m ρ c 5).trans ((array_w1 (V1 m ρ) c).trans (by rw [gateIn_eq]))

theorem W2_w2 : W2 m ρ c (Proc.devRef .tc main_v3_3) = fun i => (asked m ρ c).w2 (tokAt i) :=
  (W2_arr m ρ c 6).trans ((array_w2 (V1 m ρ) c).trans (by rw [gateIn_eq]))

theorem W2_pm : W2 m ρ c (Proc.devRef .tc main_v3_4) = fun i : S1x64.Idx => ∑ s, pz ((asked m ρ c).L s) (i 1) :=
  (W2_arr m ρ c 7).trans ((array_pm (V1 m ρ) c).trans (by rw [gateIn_eq]))

theorem W2_ps : W2 m ρ c (Proc.devRef .tc main_v3_5) = fun i : S1x64.Idx => ∑ s, soft ((asked m ρ c).L s) (i 1) :=
  (W2_arr m ρ c 8).trans ((array_ps (V1 m ρ) c).trans (by rw [gateIn_eq]))

theorem W2_count1 : W2 m ρ c (Proc.devRef .tc main_v3_6) = fun i : S1x64.Idx => ∑ s, hot ((asked m ρ c).e1 s) (i 1) :=
  (W2_arr m ρ c 9).trans ((array_count1 (V1 m ρ) c).trans (by rw [gateIn_eq]))

theorem W2_imp : W2 m ρ c (Proc.devRef .tc main_v3_8) = fun i : S1x64.Idx => ∑ s, (asked m ρ c).gate s (i 1) :=
  (W2_arr m ρ c 11).trans ((array_imp (V1 m ρ) c).trans (by rw [gateIn_eq]))

theorem W2_pen : W2 m ρ c (Proc.devRef .tc main_v3_9)
    = fun i : S1x64.Idx => ∑ s, pz ((asked m ρ c).L s) (i 1) * (1 - pz ((asked m ρ c).L s) (i 1)) :=
  (W2_arr m ρ c 12).trans ((array_pen (V1 m ρ) c).trans (by rw [gateIn_eq]))

theorem W2_z : W2 m ρ c (Proc.devRef .tc main_v3_10) = fun _ => ∑ s, lse ((asked m ρ c).L s) * lse ((asked m ρ c).L s) :=
  (W2_arr m ρ c 13).trans ((array_z (V1 m ρ) c).trans (by rw [gateIn_eq]; rfl))

/-! ## The second result -/

theorem nTok_ne : nTok ≠ 0 := by
  rw [show nTok = ((8192 : ℝ) : EReal) from by simp [nTok, Ideal.ofBits, Ideal.ieee, -EReal.coe_mul]; norm_num]
  exact_mod_cast (by norm_num : (8192 : ℝ) ≠ 0)

theorem W11_aux : W11 m ρ c main_v42 = fun _ => auxLoss (asked m ρ c) := by
  funext i
  obtain rfl : i = ix0 := funext fun a => a.elim0
  refine (show W11 m ρ c main_v42 ix0 = W6 m ρ c main_v42 ix0 from by unfold W11; after_reads_at).trans ?_
  refine (congrFun (W6_of m ρ c main_v42 (by decide)) ix0).trans ?_
  unfold W5
  after_reads_at
  rw [W2_pm, W2_ps, W2_count1, W2_imp, W2_pen, W2_z, if_pos count_pos]
  refine congrArg₂ (fun a b : EReal => a + b) (congrArg₂ (fun a b : EReal => a + b) (congrArg₂ (fun a b : EReal => a + b) ?_ ?_) rfl) rfl
  · refine congrArg (fun p : EReal => Ideal.ofBits .f32 0x3C23D70A#32 * (Ideal.div p (Ideal.ofBits .f32 0x49000000#32)
      + (Ideal.ofBits .f32 0x3C800000#32 - Ideal.div (∑ e, Ideal.div (∑ s, pz ((asked m ρ c).L s) e) nTok
        * (1 - Ideal.div (∑ s, pz ((asked m ρ c).L s) e) nTok)) nExp))) ?_
    exact (Fin.sum_univ_one _).trans Finset.sum_comm
  · exact mul_div _ _ _ nTok_ne

end Cert.KernelIdeal.Gen

end
-- ==== Proof.Dispatch.lean ====
/-
  THE DISPATCH: scattering one value per token into the cells of the kept first and second choices. A kept choice's cell
  holds its token's value afterwards, because no two kept choices share a cell and a dropped choice has no cell.
-/
module

public import proofs.«01_k».proof.Proof.Model
public import proofs.«01_k».proof.Proof.Gen.KernelIdeal
public import Idealize.ShloMosaic.Lib.Routing.OpsSet
public import Idealize.ShloMosaic.Lib.Routing.OpsPair
public import Idealize.ShloMosaic.Lib.Pointwise

@[expose] public section

set_option maxRecDepth 16384

noncomputable section

open Idealize.ShloMosaic
open Cert.Gate

open Cert.KernelIdeal.Facts₀ Cert.KernelIdeal.Facts

namespace Cert.KernelIdeal.Gen

/-- Words of numbers below `2 ^ 31` are not negative. -/
theorem not_negative {n : ℕ} (h : n < 2 ^ 31) : IntOp.cmpi .slt (BitVec.ofNat 32 n) 0#32 = 0#1 := by
  show BitVec.ofBool ((BitVec.ofNat 32 n).slt 0#32) = _
  have hn : (BitVec.ofNat 32 n).toNat = n := by rw [BitVec.toNat_ofNat]; omega
  rw [BitVec.slt, BitVec.toInt_eq_toNat_of_lt (by rw [hn]; omega), hn,
    decide_eq_false (by show ¬ ((n : Int) < 0); omega)]
  rfl

/-- The signed reading of such a word. -/
theorem toInt_small {n : ℕ} (h : n < 2 ^ 31) : (BitVec.ofNat 32 n).toInt = (n : Int) := by
  have hn : (BitVec.ofNat 32 n).toNat = n := by rw [BitVec.toNat_ofNat]; omega
  rw [BitVec.toInt_eq_toNat_of_lt (by rw [hn]; omega), hn]

/-- Cell numbers as the scatter and the gather take them: a negative one counted from the end. -/
def wrapped (σ : IVec S8192 32) : IVec S8192x1 32 :=
  broadcastInDim S8192x1 ![0] bcast_S8192_S8192x1_0
    (select (cmpi .slt σ (broadcastInDim S8192 ![] bcast_S_S8192 (constantI S_ 32 0#32)))
      (addi σ (broadcastInDim S8192 ![] bcast_S_S8192 (constantI S_ 32 32768#32))) σ)

/-- A number that is not negative stays. -/
theorem wrapped_at (σ : IVec S8192 32) (s : Fin 8192) {n : ℕ} (h : σ (ix1 s) = BitVec.ofNat 32 n) (hn : n < 2 ^ 31) :
    wrapped σ (ix2 s (0 : Fin 1)) = BitVec.ofNat 32 n := by
  pointwise [wrapped]
  rw [h, not_negative hn]
  rfl

/-- Update `s` starts at its cell number. -/
theorem scatter_start (idx : IVec S8192x1 32) (s : Fin 8192) :
    scatter_S32768_S8192x1_S8192_n_0_0_1.start (ix1 s) idx 0 = (idx (ix2 s (0 : Fin 1))).toInt := by
  unfold ScatterDims.start
  rw [dif_pos (show (0 : Fin S32768.rank) ∈ scatter_S32768_S8192x1_S8192_n_0_0_1.scatterDimsToOperandDims from List.mem_singleton.mpr rfl)]
  refine congrArg (fun i => (idx i).toInt) (funext fun b => Fin.ext ?_)
  match b with
  | ⟨0, _⟩ => rfl
  | ⟨1, _⟩ => rfl

/-- Update `s` lands in its cell, if it is one. -/
theorem scatter_lands (σ : IVec S8192 32) (s : Fin 8192) {n : ℕ} (h : σ (ix1 s) = BitVec.ofNat 32 n) (hn : n < 2 ^ 31)
    (r : Fin 32768) : scatter_S32768_S8192x1_S8192_n_0_0_1.resultIdx? (ix1 s) (wrapped σ) = some (ix1 r) ↔ n = r.val := by
  refine (Routing.resultIdx?_ix1 scatter_S32768_S8192x1_S8192_n_0_0_1 (ix1 s) (wrapped σ) r).trans ?_
  rw [scatter_start, wrapped_at σ s h hn, toInt_small hn,
    show scatter_S32768_S8192x1_S8192_n_0_0_1.window (ix1 s) 0 = 0 from rfl]
  omega

variable (I : Inputs) (σ1 σ2 : IVec S8192 32) (h1 : ∀ s, σ1 (ix1 s) = BitVec.ofNat 32 (I.cell1 s))
  (h2 : ∀ s, σ2 (ix1 s) = BitVec.ofNat 32 (I.cell2 s)) {α : Type} (z : S32768.Idx → α) (v1 v2 : S8192.Idx → α)

/-- The two scatters, the second choices' after the first ones'. -/
def dispatched : S32768.Idx → α :=
  Host.scatter scatter_S32768_S8192x1_S8192_n_0_0_1 (fun _ b => b)
    (Host.scatter scatter_S32768_S8192x1_S8192_n_0_0_1 (fun _ b => b) z (wrapped σ1) v1) (wrapped σ2) v2

theorem small1 (s : Fin 8192) : I.cell1 s < 2 ^ 31 := lt_of_le_of_lt (I.cell1_le s) (by decide)

theorem small2 (s : Fin 8192) : I.cell2 s < 2 ^ 31 := lt_of_le_of_lt (I.cell2_le s) (by decide)

include h1 h2 in
/-- A kept first choice's cell holds its token's value. -/
theorem dispatched_first {t : Fin 8192} (hk : I.keep1 t) (r : Fin 32768) (hr : I.cell1 t = r.val) :
    dispatched σ1 σ2 z v1 v2 (ix1 r) = v1 (ix1 t) := by
  unfold dispatched
  have hlt := I.cell1_lt hk
  rw [Routing.scatter_set_miss]
  · refine Routing.scatter_set_hit _ _ _ _ _ _ (fun k hl => ?_) (ix1 t) ((scatter_lands σ1 t (h1 t) (small1 I t) r).mpr hr)
    obtain ⟨s, rfl⟩ : ∃ s : Fin 8192, k = ix1 s := ⟨k 0, by funext a; match a with | ⟨0, _⟩ => rfl⟩
    have hs := (scatter_lands σ1 s (h1 s) (small1 I s) r).mp hl
    rw [I.cell1_inj ((I.cell1_lt_iff s).mp (by omega)) hk (hs.trans hr.symm)]
  · intro k hl
    obtain ⟨s, rfl⟩ : ∃ s : Fin 8192, k = ix1 s := ⟨k 0, by funext a; match a with | ⟨0, _⟩ => rfl⟩
    have hs := (scatter_lands σ2 s (h2 s) (small2 I s) r).mp hl
    exact I.cell1_ne_cell2 hk ((I.cell2_lt_iff s).mp (by omega)) (hr.trans hs.symm)

include h2 in
/-- A kept second choice's cell holds its token's value. -/
theorem dispatched_second {t : Fin 8192} (hk : I.keep2 t) (r : Fin 32768) (hr : I.cell2 t = r.val) :
    dispatched σ1 σ2 z v1 v2 (ix1 r) = v2 (ix1 t) := by
  unfold dispatched
  have hlt := I.cell2_lt hk
  refine Routing.scatter_set_hit _ _ _ _ _ _ (fun k hl => ?_) (ix1 t) ((scatter_lands σ2 t (h2 t) (small2 I t) r).mpr hr)
  obtain ⟨s, rfl⟩ : ∃ s : Fin 8192, k = ix1 s := ⟨k 0, by funext a; match a with | ⟨0, _⟩ => rfl⟩
  have hs := (scatter_lands σ2 s (h2 s) (small2 I s) r).mp hl
  rw [I.cell2_inj ((I.cell2_lt_iff s).mp (by omega)) hk (hs.trans hr.symm)]

end Cert.KernelIdeal.Gen

end
-- ==== Proof.Ffn.lean ====
/-
  THE EXPERTS' KERNEL: one grid point per expert, which puts every cell of the expert through its two layers with the
  gelu between them and scales the row by the cell's weight.
-/
module

public import proofs.«01_k».proof.Proof.Gen.KernelIdeal.Frame.Region1
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Gate

/-- The gelu in its tanh form, its three constants the f32 words both programs spell. -/
def gelu (h : EReal) : EReal :=
  h * (FloatOps.ofBits (F := Ideal) .f32 0x3F000000#32
    * (1 + Ideal.tanh (FloatOps.ofBits (F := Ideal) .f32 0x3F4C422A#32
      * (h + FloatOps.ofBits (F := Ideal) .f32 0x3D372713#32 * (h * (h * h))))))

/-- One expert's two layers on one row. -/
def expert (fw : Fin 3072 → Fin 768 → EReal) (fb : Fin 3072 → EReal) (pw : Fin 768 → Fin 3072 → EReal) (pb : Fin 768 → EReal)
    (x : Fin 768 → EReal) (d : Fin 768) : EReal :=
  ∑ f, gelu (∑ k, x k * fw f k + fb f) * pw d f + pb d

end Cert.Gate

open Cert.Gate

namespace Cert.KernelIdeal.Gen

variable (V : (c : Dev nD) → (b : Ref sig .tc) → Buf (Elt Ideal) ((c : Thread nD τ).loc b)) (c : Dev nD)

/-- The body's result at a row and a column. -/
theorem ffn_row (v0 : Vec Ideal S1x512x768 .bf16) (v3 : Vec Ideal S1x3072x768 .f32) (v6 : Vec Ideal S1x1x1x3072 .f32)
    (v24 : Vec Ideal S1x768x3072 .f32) (v37 : Vec Ideal S1x1x768 .f32) (v42 : Vec Ideal S1x1x512 .f32)
    (r : Fin 512) (d : Fin 768) :
    k1_pay1 (k1_pay3 v0 v3 v6 v24) v37 v42 (ix3 0 r d)
      = expert (fun f k => v3 (ix3 0 f k)) (fun f => v6 (ix4 0 0 0 f)) (fun d f => v24 (ix3 0 d f)) (fun d => v37 (ix3 0 0 d))
          (fun k => v0 (ix3 0 r k)) d * v42 (ix3 0 0 r) := by
  pointwise [k1_pay1]
  pointwise [k1_pay3, k1_pay2]
  rfl

/-- What the experts' kernel returns, over the arrays it is handed. -/
def experts (xe : Vec Ideal S64x512x768 .bf16) (fw : Vec Ideal S64x3072x768 .f32) (fb : Vec Ideal S64x1x1x3072 .f32)
    (pw : Vec Ideal S64x768x3072 .f32) (pb : Vec Ideal S64x1x768 .f32) (w : Vec Ideal S64x1x512 .f32)
    (e : Fin 64) (r : Fin 512) (d : Fin 768) : EReal :=
  expert (fun f k => fw (ix3 e f k)) (fun f => fb (ix4 e 0 0 f)) (fun d f => pw (ix3 e d f)) (fun d => pb (ix3 e 0 d))
    (fun k => xe (ix3 e r k)) d * w (ix3 e 0 r)

theorem index1_0 : ∀ t : Fin cfg1.N, win1_0.index t 0 = t.val ∧ win1_0.index t 1 = 0 ∧ win1_0.index t 2 = 0 := by decide +kernel
theorem index1_1 : ∀ t : Fin cfg1.N, win1_1.index t 0 = t.val ∧ win1_1.index t 1 = 0 ∧ win1_1.index t 2 = 0 := by decide +kernel
theorem index1_2 : ∀ t : Fin cfg1.N, win1_2.index t 0 = t.val ∧ win1_2.index t 1 = 0 ∧ win1_2.index t 2 = 0 ∧ win1_2.index t 3 = 0 := by
  decide +kernel
theorem index1_3 : ∀ t : Fin cfg1.N, win1_3.index t 0 = t.val ∧ win1_3.index t 1 = 0 ∧ win1_3.index t 2 = 0 := by decide +kernel
theorem index1_4 : ∀ t : Fin cfg1.N, win1_4.index t 0 = t.val ∧ win1_4.index t 1 = 0 ∧ win1_4.index t 2 = 0 := by decide +kernel
theorem index1_5 : ∀ t : Fin cfg1.N, win1_5.index t 0 = t.val ∧ win1_5.index t 1 = 0 ∧ win1_5.index t 2 = 0 := by decide +kernel
theorem index1_6 : ∀ t : Fin cfg1.N, win1_6.index t 0 = t.val ∧ win1_6.index t 1 = 0 ∧ win1_6.index t 2 = 0 := by decide +kernel

theorem block_xe (t : Fin cfg1.N) (e : Fin 64) (h : e.val = t.val) (r : Fin 512) (k : Fin 768) :
    iblk1 V c 0 t (ix3 0 r k) = V c main_v82 (ix3 e r k) := by
  blk_ext [iblk1, index1_0 t, h]

theorem block_fw (t : Fin cfg1.N) (e : Fin 64) (h : e.val = t.val) (f : Fin 3072) (k : Fin 768) :
    iblk1 V c 1 t (ix3 0 f k) = V c main_arg2 (ix3 e f k) := by
  blk_ext [iblk1, index1_1 t, h]

theorem block_fb (t : Fin cfg1.N) (e : Fin 64) (h : e.val = t.val) (f : Fin 3072) :
    iblk1 V c 2 t (ix4 0 0 0 f) = V c main_v84 (ix4 e 0 0 f) := by
  blk_ext [iblk1, index1_2 t, h]

theorem block_pw (t : Fin cfg1.N) (e : Fin 64) (h : e.val = t.val) (d : Fin 768) (f : Fin 3072) :
    iblk1 V c 3 t (ix3 0 d f) = V c main_arg4 (ix3 e d f) := by
  blk_ext [iblk1, index1_3 t, h]

theorem block_pb (t : Fin cfg1.N) (e : Fin 64) (h : e.val = t.val) (d : Fin 768) :
    iblk1 V c 4 t (ix3 0 0 d) = V c main_v85 (ix3 e 0 d) := by
  blk_ext [iblk1, index1_4 t, h]

theorem block_w (t : Fin cfg1.N) (e : Fin 64) (h : e.val = t.val) (r : Fin 512) :
    iblk1 V c 5 t (ix3 0 0 r) = V c main_v86 (ix3 e 0 r) := by
  blk_ext [iblk1, index1_5 t, h]

/-- The experts' kernel's result array. -/
theorem array_experts : (dat1 V c).arrAt 6 cfg1.N = fun i : S64x512x768.Idx =>
    experts (V c main_v82) (V c main_arg2) (V c main_v84) (V c main_arg4) (V c main_v85) (V c main_v86) (i 0) (i 1) (i 2) := by
  refine (dat1 V c).arrAt_eq_of_covers 6 _ (by decide +kernel) fun t hf y => ?_
  blk_simp
  rw [after1_6]
  obtain ⟨r, d, rfl⟩ : ∃ (r : Fin 512) (d : Fin 768), y = ix3 0 r d := ⟨y 1, y 2, (eq_ix3 y).trans (by
    rw [Subsingleton.elim (α := Fin 1) (y 0) 0])⟩
  have h0 : ((win1_6.blk t).view.emb (ix3 0 r d) 0).val = t.val := by blk_simp [index1_6 t]; omega
  have h1 : ((win1_6.blk t).view.emb (ix3 0 r d) 1).val = r.val := by blk_simp [index1_6 t]
  have h2 : ((win1_6.blk t).view.emb (ix3 0 r d) 2).val = d.val := by blk_simp [index1_6 t]
  generalize hi : (win1_6.blk t).view.emb (ix3 0 r d) = i at h0 h1 h2 ⊢
  have e1 : i 1 = r := Fin.ext h1
  have e2 : i 2 = d := Fin.ext h2
  unfold outsAt1
  frame_out
  rw [ffn_row, e1, e2]
  unfold experts
  simp only [block_xe V c t (i 0) h0, block_fw V c t (i 0) h0, block_fb V c t (i 0) h0, block_pw V c t (i 0) h0,
    block_pb V c t (i 0) h0, block_w V c t (i 0) h0]

end Cert.KernelIdeal.Gen

end
-- ==== Proof.Mixed.lean ====
/-
  THE FIRST RESULT, stated once for both programs: a token's row through its two chosen experts, weighted.
-/
module

public import proofs.«01_k».proof.Proof.Ffn
public import proofs.«01_k».proof.Proof.Problem
public import proofs.«01_k».proof.Proof.Choice

@[expose] public section

noncomputable section

open Idealize.ShloMosaic
open Idealize.ShloMosaic.Pipeline (Dat)

namespace Cert.Gate

/-- Expert `e` of the weight arrays on a row. -/
def expertOf (fw : Vec Ideal ⟨3, ![64, 3072, 768]⟩ .f32) (fb : Vec Ideal ⟨2, ![64, 3072]⟩ .f32)
    (pw : Vec Ideal ⟨3, ![64, 768, 3072]⟩ .f32) (pb : Vec Ideal ⟨2, ![64, 768]⟩ .f32) (e : Fin 64) (x : Fin 768 → EReal) (d : Fin 768) : EReal :=
  expert (fun f k => fw (ix3 e f k)) (fun f => fb (ix2 e f)) (fun d f => pw (ix3 e d f)) (fun d => pb (ix2 e d)) x d

/-- The first result at token `s`: the two chosen experts, weighted. -/
def mixed (I : Inputs) (x : Vec Ideal ⟨3, ![2, 4096, 768]⟩ .f32) (fw : Vec Ideal ⟨3, ![64, 3072, 768]⟩ .f32) (fb : Vec Ideal ⟨2, ![64, 3072]⟩ .f32)
    (pw : Vec Ideal ⟨3, ![64, 768, 3072]⟩ .f32) (pb : Vec Ideal ⟨2, ![64, 768]⟩ .f32) (s : Fin 8192) (d : Fin 768) : EReal :=
  expertOf fw fb pw pb (I.e1 s) (row x s) d * I.w1 s + expertOf fw fb pw pb (I.e2 s) (row x s) d * I.w2 s

/-- Where all scores are real the sum over the experts weighted by the gate is the two chosen ones. -/
theorem sum_gate_eq {I : Inputs} (x : Vec Ideal ⟨3, ![2, 4096, 768]⟩ .f32) (fw : Vec Ideal ⟨3, ![64, 3072, 768]⟩ .f32)
    (fb : Vec Ideal ⟨2, ![64, 3072]⟩ .f32) (pw : Vec Ideal ⟨3, ![64, 768, 3072]⟩ .f32) (pb : Vec Ideal ⟨2, ![64, 768]⟩ .f32)
    (s : Fin 8192) (d : Fin 768) (h : Finite (I.L s)) :
    ∑ e, expertOf fw fb pw pb e (row x s) d * I.gate s e = mixed I x fw fb pw pb s d :=
  I.sum_gate s (fun e => expertOf fw fb pw pb e (row x s) d) (second_ne_best h.ne_bot).symm

end Cert.Gate

end
-- ==== Proof.KernelOut.lean ====
/-
  THE KERNEL'S FIRST RESULT: what the host operations between and after the launches make of the gate's arrays, and what
  the experts' launch makes of those; a token's row is its two kept choices' expert rows, fetched from their cells.
-/
module

public import proofs.«01_k».proof.Proof.KernelAux
public import proofs.«01_k».proof.Proof.Dispatch
public import proofs.«01_k».proof.Proof.Ffn
public import proofs.«01_k».proof.Proof.Mixed

@[expose] public section

set_option maxRecDepth 16384

noncomputable section

open Idealize.ShloMosaic Idealize.ShloMosaic.TcCoe Idealize.SL.Sem
open Idealize.ShloMosaic.Pipeline (Dat)
open Cert.Gate
open Cert.KernelIdeal.Facts₀ Cert.KernelIdeal.Facts

namespace Cert.KernelIdeal.Gen

variable (m : (ℓ : Loc nD τ sig) → Buf (Elt Ideal) ℓ) (ρ : Dev nD → PrngReg) (c : Dev nD)

/-! ## The cells -/

/-- The first choices' cell numbers, by token. -/
def slot1 : IVec S8192 32 := fun i => W2 m ρ c (Proc.devRef .tc main_v3_0)
  (ix3 ⟨(i 0).val / 1024, by have := (i 0).isLt; change (i 0).val < 8192 at this; omega⟩ ⟨(i 0).val % 1024, by omega⟩ (0 : Fin 1))

/-- The second choices' cell numbers, by token. -/
def slot2 : IVec S8192 32 := fun i => W2 m ρ c (Proc.devRef .tc main_v3_1)
  (ix3 ⟨(i 0).val / 1024, by have := (i 0).isLt; change (i 0).val < 8192 at this; omega⟩ ⟨(i 0).val % 1024, by omega⟩ (0 : Fin 1))

/-- The token at the place a token's entry is blocked to. -/
theorem tokAt_blocked (s : Fin 8192) : tokAt (ix3 ⟨s.val / 1024, by omega⟩ ⟨s.val % 1024, by omega⟩ (0 : Fin 1)) = s :=
  Fin.ext (show s.val / 1024 * 1024 + s.val % 1024 = s.val by omega)

theorem slot1_at (s : Fin 8192) : slot1 m ρ c (ix1 s) = BitVec.ofNat 32 ((asked m ρ c).cell1 s) := by
  unfold slot1
  rw [W2_slot1]
  exact congrArg (fun t => BitVec.ofNat 32 ((asked m ρ c).cell1 t)) (tokAt_blocked s)

theorem slot2_at (s : Fin 8192) : slot2 m ρ c (ix1 s) = BitVec.ofNat 32 ((asked m ρ c).cell2 s) := by
  unfold slot2
  rw [W2_slot2]
  exact congrArg (fun t => BitVec.ofNat 32 ((asked m ρ c).cell2 t)) (tokAt_blocked s)

/-! ## What the experts' launch is handed -/

/-- Which token each cell holds. -/
def held : IVec S32768 32 :=
  dispatched (slot1 m ρ c) (slot2 m ρ c) (broadcastInDim S32768 ![] bcast_S_S32768 (constantI S_ 32 0#32)) (iotaInDim S8192 32 0) (iotaInDim S8192 32 0)

theorem held_first {t : Fin 8192} (hk : (asked m ρ c).keep1 t) (r : Fin 32768) (hr : (asked m ρ c).cell1 t = r.val) :
    held m ρ c (ix1 r) = BitVec.ofNat 32 t.val :=
  dispatched_first (asked m ρ c) _ _ (slot1_at m ρ c) (slot2_at m ρ c) _ _ _ hk r hr

theorem held_second {t : Fin 8192} (hk : (asked m ρ c).keep2 t) (r : Fin 32768) (hr : (asked m ρ c).cell2 t = r.val) :
    held m ρ c (ix1 r) = BitVec.ofNat 32 t.val :=
  dispatched_second (asked m ρ c) _ _ (slot2_at m ρ c) _ _ _ hk r hr

/-- Token numbers as the gather takes them: a negative one counted from the end. -/
def wrappedTok (σ : IVec S32768 32) : IVec S32768x1 32 :=
  broadcastInDim S32768x1 ![0] bcast_S32768_S32768x1_0
    (select (cmpi .slt σ (broadcastInDim S32768 ![] bcast_S_S32768 (constantI S_ 32 0#32)))
      (addi σ (broadcastInDim S32768 ![] bcast_S_S32768 (constantI S_ 32 8192#32))) σ)

theorem wrappedTok_at (σ : IVec S32768 32) (r : Fin 32768) {n : ℕ} (h : σ (ix1 r) = BitVec.ofNat 32 n) (hn : n < 2 ^ 31) :
    wrappedTok σ (ix2 r (0 : Fin 1)) = BitVec.ofNat 32 n := by
  pointwise [wrappedTok]
  rw [h, not_negative hn]
  rfl

/-- The rows handed to the experts: gathered from the tokens' rows by what each cell holds. -/
theorem W5_rows (e : Fin 64) (r : Fin 512) (k : Fin 768) (t : Fin 8192)
    (ht : held m ρ c (ix1 ⟨e.val * 512 + r.val, by omega⟩) = BitVec.ofNat 32 t.val) :
    W5 m ρ c main_v82 (ix3 e r k) = row (W0 m ρ c main_arg0) t k := by
  unfold W5
  after_reads_at
  refine (Routing.gather_row gather_S8192x768_S32768x1_S32768x768_1_0_n_n_0_1_1768 rfl rfl rfl rfl rfl _
    (wrappedTok (held m ρ c)) ⟨e.val * 512 + r.val, by omega⟩ k t (wrappedTok_at _ _ ht (by omega)) (by decide)).trans ?_
  refine (congrFun (W2_of m ρ c main_v0 (by decide)) (ix2 t k)).trans ?_
  unfold W1
  after_reads_at
  rfl

/-- The first choices' weights, by token. -/
def weight1 : S8192.Idx → Ideal .f32 := fun i => W2 m ρ c (Proc.devRef .tc main_v3_2)
  (ix3 ⟨(i 0).val / 1024, by have := (i 0).isLt; change (i 0).val < 8192 at this; omega⟩ ⟨(i 0).val % 1024, by omega⟩ (0 : Fin 1))

/-- The second choices' weights, by token. -/
def weight2 : S8192.Idx → Ideal .f32 := fun i => W2 m ρ c (Proc.devRef .tc main_v3_3)
  (ix3 ⟨(i 0).val / 1024, by have := (i 0).isLt; change (i 0).val < 8192 at this; omega⟩ ⟨(i 0).val % 1024, by omega⟩ (0 : Fin 1))

theorem weight1_at (s : Fin 8192) : weight1 m ρ c (ix1 s) = (asked m ρ c).w1 s := by
  unfold weight1
  rw [W2_w1]
  exact congrArg (asked m ρ c).w1 (tokAt_blocked s)

theorem weight2_at (s : Fin 8192) : weight2 m ρ c (ix1 s) = (asked m ρ c).w2 s := by
  unfold weight2
  rw [W2_w2]
  exact congrArg (asked m ρ c).w2 (tokAt_blocked s)

/-- The weights handed to the experts, by cell. -/
def weights : S32768.Idx → Ideal .f32 :=
  dispatched (slot1 m ρ c) (slot2 m ρ c) (broadcastInDim S32768 ![] bcast_S_S32768 (constant (F := Ideal) S_ .f32 0x00000000#32))
    (weight1 m ρ c) (weight2 m ρ c)

theorem weights_first {t : Fin 8192} (hk : (asked m ρ c).keep1 t) (r : Fin 32768) (hr : (asked m ρ c).cell1 t = r.val) :
    weights m ρ c (ix1 r) = (asked m ρ c).w1 t :=
  (dispatched_first (asked m ρ c) _ _ (slot1_at m ρ c) (slot2_at m ρ c) _ _ _ hk r hr).trans (weight1_at m ρ c t)

theorem weights_second {t : Fin 8192} (hk : (asked m ρ c).keep2 t) (r : Fin 32768) (hr : (asked m ρ c).cell2 t = r.val) :
    weights m ρ c (ix1 r) = (asked m ρ c).w2 t :=
  (dispatched_second (asked m ρ c) _ _ (slot2_at m ρ c) _ _ _ hk r hr).trans (weight2_at m ρ c t)

/-- The reshaped arrays of the gate's launch, by token. -/
theorem slot1_eq : shapeCast (⟨1, ![8192]⟩ : Shape) (W2 m ρ c (Proc.devRef .tc main_v3_0)) shapeCasts_S8x1024x1_S8192 = slot1 m ρ c := by
  funext i
  obtain ⟨s, rfl⟩ : ∃ s : Fin 8192, i = ix1 s := ⟨i 0, eq_ix1 i⟩
  pointwise [slot1]

theorem slot2_eq : shapeCast (⟨1, ![8192]⟩ : Shape) (W2 m ρ c (Proc.devRef .tc main_v3_1)) shapeCasts_S8x1024x1_S8192 = slot2 m ρ c := by
  funext i
  obtain ⟨s, rfl⟩ : ∃ s : Fin 8192, i = ix1 s := ⟨i 0, eq_ix1 i⟩
  pointwise [slot2]

theorem weight1_eq : shapeCast (⟨1, ![8192]⟩ : Shape) (W2 m ρ c (Proc.devRef .tc main_v3_2)) shapeCasts_S8x1024x1_S8192 = weight1 m ρ c := by
  funext i
  obtain ⟨s, rfl⟩ : ∃ s : Fin 8192, i = ix1 s := ⟨i 0, eq_ix1 i⟩
  pointwise [weight1]

theorem weight2_eq : shapeCast (⟨1, ![8192]⟩ : Shape) (W2 m ρ c (Proc.devRef .tc main_v3_3)) shapeCasts_S8x1024x1_S8192 = weight2 m ρ c := by
  funext i
  obtain ⟨s, rfl⟩ : ∃ s : Fin 8192, i = ix1 s := ⟨i 0, eq_ix1 i⟩
  pointwise [weight2]

/-- Cells in the order of the experts' blocks. -/
theorem by_expert {α : Type} (w : S32768.Idx → α) (e : Fin 64) (r : Fin 512) :
    shapeCast S64x1x512 (fun i => shapeCast S64x512 w shapeCasts_S32768_S64x512 i) shapeCasts_S64x512_S64x1x512 (ix3 e (0 : Fin 1) r)
      = w (ix1 ⟨e.val * 512 + r.val, by omega⟩) := by
  pointwise

theorem W5_weights (e : Fin 64) (r : Fin 512) :
    W5 m ρ c main_v86 (ix3 e (0 : Fin 1) r) = weights m ρ c (ix1 ⟨e.val * 512 + r.val, by omega⟩) := by
  unfold W5
  after_reads_simp
  clean_types
  rw [slot1_eq, slot2_eq, weight1_eq, weight2_eq]
  exact by_expert (weights m ρ c) e r

theorem W5_bias1 (e : Fin 64) (f : Fin 3072) : W5 m ρ c main_v84 (ix4 e (0 : Fin 1) (0 : Fin 1) f) = W0 m ρ c main_arg3 (ix2 e f) := by
  unfold W5
  after_reads_at
  exact congrFun (W2_args m ρ c main_arg3 (by decide)) (ix2 e f)

theorem W5_bias2 (e : Fin 64) (d : Fin 768) : W5 m ρ c main_v85 (ix3 e (0 : Fin 1) d) = W0 m ρ c main_arg5 (ix2 e d) := by
  unfold W5
  after_reads_at
  exact congrFun (W2_args m ρ c main_arg5 (by decide)) (ix2 e d)

/-! ## What the experts' launch returns -/

/-- The experts' launch over the arguments and the two arrays the host prepared for it. -/
theorem experts_args (V82 : Vec Ideal S64x512x768 .bf16) (fw : Vec Ideal S64x3072x768 .f32) (fb : Vec Ideal S64x1x1x3072 .f32)
    (pw : Vec Ideal S64x768x3072 .f32) (pb : Vec Ideal S64x1x768 .f32) (w : Vec Ideal S64x1x512 .f32)
    (fb' : Vec Ideal S64x3072 .f32) (pb' : Vec Ideal S64x768 .f32) (e : Fin 64) (r : Fin 512) (d : Fin 768) (x : Fin 768 → EReal) (v : EReal)
    (hx : ∀ k, V82 (ix3 e r k) = x k) (hfb : ∀ f, fb (ix4 e 0 0 f) = fb' (ix2 e f)) (hpb : ∀ d, pb (ix3 e 0 d) = pb' (ix2 e d))
    (hw : w (ix3 e 0 r) = v) : experts V82 fw fb pw pb w e r d = expertOf fw fb' pw pb' e x d * v := by
  unfold experts expertOf
  rw [hw, funext hx, funext hfb, funext hpb]

/-- A cell's row of the experts' launch: the row of the token it holds through the cell's expert, weighted. -/
theorem cell_row (e : Fin 64) (r : Fin 512) (t : Fin 8192) (ht : held m ρ c (ix1 ⟨e.val * 512 + r.val, by omega⟩) = BitVec.ofNat 32 t.val)
    (d : Fin 768) : W6 m ρ c (Proc.devRef .tc main_v87) (ix3 e r d)
      = expertOf (W0 m ρ c main_arg2) (W0 m ρ c main_arg3) (W0 m ρ c main_arg4) (W0 m ρ c main_arg5) e
          (row (W0 m ρ c main_arg0) t) d * weights m ρ c (ix1 ⟨e.val * 512 + r.val, by omega⟩) := by
  refine (congrFun ((W6_arr m ρ c 6).trans (array_experts (V5 m ρ) c)) (ix3 e r d)).trans ?_
  refine (experts_args _ _ _ _ _ _ (W0 m ρ c main_arg3) (W0 m ρ c main_arg5) e r d _ _ (fun k => W5_rows m ρ c e r k t ht)
    (W5_bias1 m ρ c e) (W5_bias2 m ρ c e) (W5_weights m ρ c e r)).trans ?_
  have h2 : V5 m ρ c main_arg2 = W0 m ρ c main_arg2 := W5_args m ρ c _ (by decide)
  have h4 : V5 m ρ c main_arg4 = W0 m ρ c main_arg4 := W5_args m ρ c _ (by decide)
  rw [h2, h4]

/-- The same at a cell's number. -/
theorem cell_row_at (q : Fin 32768) (t : Fin 8192) (ht : held m ρ c (ix1 q) = BitVec.ofNat 32 t.val) (d : Fin 768) (e : Fin 64)
    (he : q.val / 512 = e.val) :
    W6 m ρ c (Proc.devRef .tc main_v87) (ix3 ⟨q.val / 512, by omega⟩ ⟨q.val % 512, by omega⟩ d)
      = expertOf (W0 m ρ c main_arg2) (W0 m ρ c main_arg3) (W0 m ρ c main_arg4) (W0 m ρ c main_arg5) e
          (row (W0 m ρ c main_arg0) t) d * weights m ρ c (ix1 q) := by
  have hq : (⟨e.val * 512 + q.val % 512, by omega⟩ : Fin 32768) = q := Fin.ext (by show e.val * 512 + q.val % 512 = q.val; omega)
  have h := cell_row m ρ c e ⟨q.val % 512, by omega⟩ t ((congrArg (fun z => held m ρ c (ix1 z)) hq).trans ht) d
  have he' : (⟨q.val / 512, by omega⟩ : Fin 64) = e := Fin.ext he
  refine (congrArg (fun z : Fin 64 => W6 m ρ c (Proc.devRef .tc main_v87) (ix3 z ⟨q.val % 512, by omega⟩ d)) he').trans (h.trans ?_)
  exact congrArg (fun z : Fin 32768 => expertOf (W0 m ρ c main_arg2) (W0 m ρ c main_arg3) (W0 m ρ c main_arg4) (W0 m ρ c main_arg5) e
    (row (W0 m ρ c main_arg0) t) d * weights m ρ c (ix1 z)) hq

/-! ## The first result -/

/-- A cell number compared with the number of cells. -/
theorem cell_test {n : ℕ} (h : n ≤ 32768) : IntOp.cmpi .slt (BitVec.ofNat 32 n) 32768#32 = if n < 32768 then 1#1 else 0#1 := by
  rcases h.lt_or_eq with h | rfl
  · rw [if_pos h]
    show BitVec.ofBool (BitVec.slt _ _) = _
    rw [show BitVec.slt (BitVec.ofNat 32 n) 32768#32 = true from ?_]
    · rfl
    · rw [BitVec.slt_iff_toInt_lt, toInt_small (by omega)]
      show (n : ℤ) < 32768
      omega
  · rfl

theorem W6_slot1 : W6 m ρ c (Proc.devRef .tc main_v4) = slot1 m ρ c := by
  refine (W6_of m ρ c main_v4 (by decide)).trans ?_
  funext i
  obtain ⟨s, rfl⟩ : ∃ s : Fin 8192, i = ix1 s := ⟨i 0, eq_ix1 i⟩
  unfold W5
  after_reads_at
  rfl

theorem W6_slot2 : W6 m ρ c (Proc.devRef .tc main_v5) = slot2 m ρ c := by
  refine (W6_of m ρ c main_v5 (by decide)).trans ?_
  funext i
  obtain ⟨s, rfl⟩ : ∃ s : Fin 8192, i = ix1 s := ⟨i 0, eq_ix1 i⟩
  unfold W5
  after_reads_at
  rfl

/-- The experts' rows, by cell. -/
def cells : S32768x768.Idx → Ideal .bf16 := fun i =>
  W6 m ρ c (Proc.devRef .tc main_v87) (ix3 ⟨(i 0).val / 512, by have := (i 0).isLt; change (i 0).val < 32768 at this; omega⟩
    ⟨(i 0).val % 512, by omega⟩ (i 1))

/-- A choice's share of a token's row: its cell's row, or nothing where it is dropped. -/
def share (σ : IVec S8192 32) (s : Fin 8192) (d : Fin 768) : EReal :=
  Scalar.select (IntOp.cmpi .slt (σ (ix1 s)) 32768#32)
    (Host.gather gather_S32768x768_S8192x1_S8192x768_1_0_n_n_0_1_1768 (cells m ρ c) (wrapped σ) (ix2 s d)) (0 : EReal)

theorem share_kept (σ : IVec S8192 32) (s : Fin 8192) (d : Fin 768) (q : Fin 32768) (h : σ (ix1 s) = BitVec.ofNat 32 q.val) :
    share m ρ c σ s d = W6 m ρ c (Proc.devRef .tc main_v87) (ix3 ⟨q.val / 512, by omega⟩ ⟨q.val % 512, by omega⟩ d) := by
  unfold share
  rw [h, cell_test (by omega), if_pos q.isLt]
  refine (show Scalar.select 1#1 _ (0 : EReal) = _ from rfl).trans ?_
  exact Routing.gather_row gather_S32768x768_S8192x1_S8192x768_1_0_n_n_0_1_1768 rfl rfl rfl rfl rfl (cells m ρ c) (wrapped σ) s d q
    (wrapped_at σ s h (by omega)) (by decide)

theorem share_dropped (σ : IVec S8192 32) (s : Fin 8192) (d : Fin 768) (h : σ (ix1 s) = BitVec.ofNat 32 32768) :
    share m ρ c σ s d = 0 := by
  unfold share
  rw [h]
  rfl

theorem share_first (s : Fin 8192) (d : Fin 768) : share m ρ c (slot1 m ρ c) s d
    = expertOf (W0 m ρ c main_arg2) (W0 m ρ c main_arg3) (W0 m ρ c main_arg4) (W0 m ρ c main_arg5) ((asked m ρ c).e1 s)
        (row (W0 m ρ c main_arg0) s) d * (asked m ρ c).w1 s := by
  by_cases hk : (asked m ρ c).keep1 s
  · have hq := (asked m ρ c).cell1_lt hk
    refine (share_kept m ρ c _ s d ⟨_, hq⟩ (slot1_at m ρ c s)).trans ?_
    refine (cell_row_at m ρ c ⟨_, hq⟩ s (held_first m ρ c hk _ rfl) d _ ((asked m ρ c).cell1_div hk)).trans ?_
    rw [weights_first m ρ c hk ⟨_, hq⟩ rfl]
  · refine (share_dropped m ρ c _ s d ((slot1_at m ρ c s).trans (congrArg (BitVec.ofNat 32) (if_neg hk)))).trans ?_
    rw [show (asked m ρ c).w1 s = 0 from if_neg hk, mul_zero]

theorem share_second (s : Fin 8192) (d : Fin 768) : share m ρ c (slot2 m ρ c) s d
    = expertOf (W0 m ρ c main_arg2) (W0 m ρ c main_arg3) (W0 m ρ c main_arg4) (W0 m ρ c main_arg5) ((asked m ρ c).e2 s)
        (row (W0 m ρ c main_arg0) s) d * (asked m ρ c).w2 s := by
  by_cases hk : (asked m ρ c).keep2 s
  · have hq := (asked m ρ c).cell2_lt hk
    refine (share_kept m ρ c _ s d ⟨_, hq⟩ (slot2_at m ρ c s)).trans ?_
    refine (cell_row_at m ρ c ⟨_, hq⟩ s (held_second m ρ c hk _ rfl) d _ ((asked m ρ c).cell2_div hk)).trans ?_
    rw [weights_second m ρ c hk ⟨_, hq⟩ rfl]
  · refine (share_dropped m ρ c _ s d ((slot2_at m ρ c s).trans (congrArg (BitVec.ofNat 32) (if_neg hk)))).trans ?_
    rw [show (asked m ρ c).w2 s = 0 from if_neg hk, mul_zero]

/-- The kernel's first result. -/
theorem W11_out (b : Fin 2) (s : Fin 4096) (d : Fin 768) : W11 m ρ c main_v114 (ix3 b s d)
    = mixed (asked m ρ c) (W0 m ρ c main_arg0) (W0 m ρ c main_arg2) (W0 m ρ c main_arg3) (W0 m ρ c main_arg4) (W0 m ρ c main_arg5)
        ⟨b.val * 4096 + s.val, by omega⟩ d := by
  refine Eq.trans ?_ (congrArg₂ (fun a b : EReal => a + b) (share_first m ρ c ⟨b.val * 4096 + s.val, by omega⟩ d)
    (share_second m ρ c ⟨b.val * 4096 + s.val, by omega⟩ d))
  unfold W11
  after_reads_at
  rw [W6_slot1, W6_slot2]
  unfold share
  have hz : (id (constant (F := Ideal) S_ .f32 0#32) ix0 : EReal) = 0 := by
    show Ideal.ofBits .f32 0#32 = 0
    simp [Ideal.ofBits, Ideal.ieee]
  rw [hz]
  rfl

end Cert.KernelIdeal.Gen

end
-- ==== Proof.TopTwo.lean ====
/-
  THE SORTED PREFIX: an entry of the two greatest of each row of an `[8192, 64]` array, and of their positions, read
  through the stable sort they are a slice of.
-/
module

public import proofs.«01_k».proof.Proof.Choice

@[expose] public section

noncomputable section

open Idealize.ShloMosaic

namespace Cert.Gate

/-- The total order's "greater" as a decision. -/
theorem greater_bit (a b : EReal) : (FloatOps.cmpfTotal (F := Ideal) (φ := .f32) .gt a b == 1#1) = decide (b < a) := by
  show (BitVec.ofBool (decide (b < a)) == 1#1) = decide (b < a)
  by_cases h : b < a <;> simp [h]

variable (x : Vec Ideal ⟨2, ![8192, 64]⟩ .f32) (s : Fin 8192) (l : Row) (hl : ∀ e, x (ix2 s e) = l e)

/-- Moving along the columns of row `s`. -/
theorem along_row (j : (⟨2, ![8192, 64]⟩ : Shape).Idx) (hj : (j 0).val = s.val) (e : Fin 64) : j.along (1 : Fin 2) e = ix2 s e := by
  funext a
  match a with
  | ⟨0, _⟩ => exact Fin.ext hj
  | ⟨1, _⟩ => rfl

include hl in
/-- The source of a sorted entry. -/
theorem source_row (j : (⟨2, ![8192, 64]⟩ : Shape).Idx) (hj : (j 0).val = s.val) :
    sortedFrom (fun k k' : Fin 64 => FloatOps.cmpfTotal (F := Ideal) (φ := .f32) .gt (x (j.along (1 : Fin 2) k)) (x (j.along (1 : Fin 2) k')) == 1#1)
      = sortedFrom (fun e e' : Fin 64 => decide (l e' < l e)) :=
  sortedFrom_congr fun a b _ => by rw [greater_bit, along_row s j hj, along_row s j hj, hl, hl]

/-- A sort of pairs along the columns, its first component at an entry. -/
theorem sort2_fst {α β : Type} (cmp : α × β → α × β → BitVec 1) (x : (⟨2, ![8192, 64]⟩ : Shape).Idx → α)
    (y : (⟨2, ![8192, 64]⟩ : Shape).Idx → β) (j : (⟨2, ![8192, 64]⟩ : Shape).Idx) :
    (Host.sort2 ⟨2, ![8192, 64]⟩ 1 cmp x y).1 j = x (j.along (1 : Fin 2) (sortedFrom (fun k k' : Fin 64 =>
      cmp (x (j.along (1 : Fin 2) k), y (j.along (1 : Fin 2) k)) (x (j.along (1 : Fin 2) k'), y (j.along (1 : Fin 2) k')) == 1#1) (j 1))) := by
  unfold Host.sort2
  rw [dif_pos (show 1 < (⟨2, ![8192, 64]⟩ : Shape).rank from Nat.one_lt_two)]
  rfl

/-- … and its second component. -/
theorem sort2_snd {α β : Type} (cmp : α × β → α × β → BitVec 1) (x : (⟨2, ![8192, 64]⟩ : Shape).Idx → α)
    (y : (⟨2, ![8192, 64]⟩ : Shape).Idx → β) (j : (⟨2, ![8192, 64]⟩ : Shape).Idx) :
    (Host.sort2 ⟨2, ![8192, 64]⟩ 1 cmp x y).2 j = y (j.along (1 : Fin 2) (sortedFrom (fun k k' : Fin 64 =>
      cmp (x (j.along (1 : Fin 2) k), y (j.along (1 : Fin 2) k)) (x (j.along (1 : Fin 2) k'), y (j.along (1 : Fin 2) k')) == 1#1) (j 1))) := by
  unfold Host.sort2
  rw [dif_pos (show 1 < (⟨2, ![8192, 64]⟩ : Shape).rank from Nat.one_lt_two)]
  rfl

/-- The slice at offset zero keeps the place. -/
theorem slice_row {α : Type} (y : (⟨2, ![8192, 64]⟩ : Shape).Idx → α)
    (h : (⟨2, ![8192, 64]⟩ : Shape).Slices (fun _ => 0) ⟨2, ![8192, 2]⟩) (r : Fin 2) :
    extractStridedSlice ⟨2, ![8192, 2]⟩ (fun _ => 0) y h (ix2 s r) = y (ix2 s (r.castLE (by decide : 2 ≤ 64))) := by
  refine congrArg y (funext fun a => Fin.ext ?_)
  match a with
  | ⟨0, _⟩ => exact Nat.zero_add _
  | ⟨1, _⟩ => exact Nat.zero_add _

include hl in
/-- The sorted values. -/
theorem top_values (h : (⟨2, ![8192, 64]⟩ : Shape).Slices (fun _ => 0) ⟨2, ![8192, 2]⟩) (r : Fin 2) :
    ((Host.topK ⟨2, ![8192, 2]⟩ 1 (FloatOps.cmpfTotal (F := Ideal) (φ := .f32) .gt) x h).1 (ix2 s r) : EReal)
      = l (sortedFrom (fun e e' : Fin 64 => decide (l e' < l e)) (r.castLE (by decide : 2 ≤ 64))) := by
  unfold Host.topK
  dsimp only
  rw [slice_row s _ h r]
  refine (sort2_fst _ _ _ _).trans ((congrArg (fun σ : Fin 64 → Fin 64 =>
    x (Shape.Idx.along (ix2 s (r.castLE (by decide : 2 ≤ 64))) (1 : Fin 2) (σ (r.castLE (by decide : 2 ≤ 64)))))
    (source_row x s l hl (ix2 s (r.castLE (by decide : 2 ≤ 64))) rfl)).trans ?_)
  rw [along_row s _ rfl, hl]

include hl in
/-- Their positions. -/
theorem top_indices (h : (⟨2, ![8192, 64]⟩ : Shape).Slices (fun _ => 0) ⟨2, ![8192, 2]⟩) (r : Fin 2) :
    (Host.topK ⟨2, ![8192, 2]⟩ 1 (FloatOps.cmpfTotal (F := Ideal) (φ := .f32) .gt) x h).2 (ix2 s r)
      = BitVec.ofNat 32 (sortedFrom (fun e e' : Fin 64 => decide (l e' < l e)) (r.castLE (by decide : 2 ≤ 64))).val := by
  unfold Host.topK
  dsimp only
  rw [slice_row s _ h r]
  have key (σ : Fin 64) : (fun i => if hd : 1 < (⟨2, ![8192, 64]⟩ : Shape).rank then iotaInDim ⟨2, ![8192, 64]⟩ 32 ⟨1, hd⟩ i else 0#32)
      (Shape.Idx.along (ix2 s (r.castLE (by decide : 2 ≤ 64))) (1 : Fin 2) σ) = BitVec.ofNat 32 σ.val := rfl
  refine (sort2_snd _ _ _ _).trans ((key _).trans ?_)
  have hs := source_row x s l hl (ix2 s (r.castLE (by decide : 2 ≤ 64))) rfl
  exact congrArg (fun e : Fin 64 => BitVec.ofNat 32 e.val) (congrFun hs (r.castLE (by decide : 2 ≤ 64)))

/-- Where no score is at the bottom: the two greatest in order, and where they are. -/
theorem top_two (h : (⟨2, ![8192, 64]⟩ : Shape).Slices (fun _ => 0) ⟨2, ![8192, 2]⟩) (hl : ∀ e, x (ix2 s e) = l e)
    (hb : ∀ e, l e ≠ ⊥) :
    ((Host.topK ⟨2, ![8192, 2]⟩ 1 (FloatOps.cmpfTotal (F := Ideal) (φ := .f32) .gt) x h).1 (ix2 s 0) : EReal) = l (best l)
      ∧ ((Host.topK ⟨2, ![8192, 2]⟩ 1 (FloatOps.cmpfTotal (F := Ideal) (φ := .f32) .gt) x h).1 (ix2 s 1) : EReal) = l (second l)
      ∧ (Host.topK ⟨2, ![8192, 2]⟩ 1 (FloatOps.cmpfTotal (F := Ideal) (φ := .f32) .gt) x h).2 (ix2 s 0) = BitVec.ofNat 32 (best l).val
      ∧ (Host.topK ⟨2, ![8192, 2]⟩ 1 (FloatOps.cmpfTotal (F := Ideal) (φ := .f32) .gt) x h).2 (ix2 s 1) = BitVec.ofNat 32 (second l).val := by
  obtain ⟨h0, h1⟩ := sorted_two hb
  refine ⟨?_, ?_, ?_, ?_⟩
  · exact (top_values x s l hl h 0).trans (congrArg l h0)
  · exact (top_values x s l hl h 1).trans (congrArg l h1)
  · exact (top_indices x s l hl h 0).trans (congrArg (fun e : Fin 64 => BitVec.ofNat 32 e.val) h0)
  · exact (top_indices x s l hl h 1).trans (congrArg (fun e : Fin 64 => BitVec.ofNat 32 e.val) h1)

end Cert.Gate

end
-- ==== Proof.Counts.lean ====
/-
  RUNNING COUNTS: the windowed integer sum that a cumulative sum down the rows of an `[8192, 64]` array prints as, read
  at an entry: the number of rows up to and including this one that hold a one in this column.
-/
module

public import proofs.«01_k».proof.Proof.Model
public import Idealize.ShloMosaic.Lib.Routing.Ops

@[expose] public section

noncomputable section

open Idealize.ShloMosaic

namespace Cert.Gate

/-- The window of a whole column. -/
abbrev Column : Shape := ⟨2, ![8192, 1]⟩

theorem column_numel : Column.numel = 8192 := by
  show ∏ a : Fin 2, (![8192, 1] : Fin 2 → Nat) a = 8192
  rw [Fin.prod_univ_two]
  rfl

theorem column_symm (n : Fin Column.numel) : Column.rowMajor.symm n = ix2 (n.cast column_numel) (0 : Fin 1) :=
  (Column.rowMajor.symm_apply_eq).2 (Fin.ext (by
    rw [Shape.rowMajor_val_two]
    show n.val = n.val * 1 + 0
    omega))

/-- The cumulative sum down the rows, over words that hold `f` in this column. -/
theorem column_sums (x : IVec ⟨2, ![8192, 64]⟩ 32) (e : Fin 64) (f : ℕ → ℕ) (hx : ∀ s : Fin 8192, x (ix2 s e) = BitVec.ofNat 32 (f s.val))
    (init : IVec ⟨0, ![]⟩ 32) (hinit : init ix0 = 0#32)
    (h : (⟨2, ![8192, 64]⟩ : Shape).ReduceWindows (![8192, 1] : Fin 2 → Nat) ![1, 1] ![8191, 0] ![0, 0] ⟨2, ![8192, 64]⟩)
    (hu : 0 < (⟨0, ![]⟩ : Shape).numel) (t : Fin 8192) :
    Host.reduceWindow IntOp.addi ![8192, 1] ![1, 1] ![8191, 0] ![0, 0] x init h hu (ix2 t e)
      = BitVec.ofNat 32 ((List.range (t.val + 1)).map f).sum := by
  have hv : init (Shape.Idx.first hu) = BitVec.ofNat 32 0 := (congrArg init (funext fun a => a.elim0)).trans hinit
  unfold Host.reduceWindow
  refine (Routing.foldl_addi_ofNat _ _ (fun n : Fin Column.numel => if 8191 ≤ t.val + n.val then f (t.val + n.val - 8191) else 0)
    (fun n _ => ?_) _ 0 hv).trans ?_
  · have h0 : (Column.rowMajor.symm n 0).val = n.val := by rw [column_symm]; rfl
    have h1 : (Column.rowMajor.symm n 1).val = 0 := by rw [column_symm]; rfl
    have hn : n.val < 8192 := (n.cast column_numel).isLt
    have ht := t.isLt
    have he := e.isLt
    dsimp only
    split
    · next hin =>
      have hin0 := hin 0
      change 8191 ≤ t.val * 1 + (Column.rowMajor.symm n 0).val ∧ t.val * 1 + (Column.rowMajor.symm n 0).val - 8191 < 8192 at hin0
      rw [h0] at hin0
      rw [if_pos (by omega)]
      refine (congrArg x (funext fun a => Fin.ext ?_)).trans (hx ⟨t.val + n.val - 8191, by omega⟩)
      match a with
      | ⟨0, _⟩ =>
        show t.val * 1 + (Column.rowMajor.symm n 0).val - 8191 = t.val + n.val - 8191
        rw [h0, Nat.mul_one]
      | ⟨1, _⟩ =>
        show e.val * 1 + (Column.rowMajor.symm n 1).val - 0 = e.val
        rw [h1]
        omega
    · next hin =>
      rw [if_neg fun hle => hin fun a => by
        match a with
        | ⟨0, _⟩ =>
          show 8191 ≤ t.val * 1 + (Column.rowMajor.symm n 0).val ∧ t.val * 1 + (Column.rowMajor.symm n 0).val - 8191 < 8192
          rw [h0]
          omega
        | ⟨1, _⟩ =>
          show 0 ≤ e.val * 1 + (Column.rowMajor.symm n 1).val ∧ e.val * 1 + (Column.rowMajor.symm n 1).val - 0 < 64
          rw [h1]
          omega]
      exact hv
  · rw [Nat.zero_add, Routing.map_finRange_val _ (fun w => if 8191 ≤ t.val + w then f (t.val + w - 8191) else 0), column_numel]
    exact congrArg (BitVec.ofNat 32) (Routing.sum_window f 8191 t.val (by omega))

/-- A sum over the first `t + 1` naturals of a 0/1 function is a count over the tokens up to `t`. -/
theorem count_tokens (p : Fin 8192 → Prop) [DecidablePred p] (t : Fin 8192) :
    ((List.range (t.val + 1)).map fun n => if h : n < 8192 then (if p ⟨n, h⟩ then 1 else 0) else 0).sum
      = (Finset.univ.filter fun s => s ≤ t ∧ p s).card := by
  rw [show ((List.range (t.val + 1)).map fun n => if h : n < 8192 then (if p ⟨n, h⟩ then 1 else 0) else 0).sum
    = ∑ n ∈ Finset.range (t.val + 1), if h : n < 8192 then (if p ⟨n, h⟩ then 1 else 0) else 0 from rfl]
  have ht := t.isLt
  rw [show (Finset.univ.filter fun s => s ≤ t ∧ p s).card = ∑ s : Fin 8192, if s ≤ t ∧ p s then 1 else 0 from Finset.card_filter _ _]
  rw [show (∑ s : Fin 8192, if s ≤ t ∧ p s then 1 else 0)
    = ∑ s : Fin 8192, (fun n : ℕ => if n ≤ t.val then (if h : n < 8192 then (if p ⟨n, h⟩ then 1 else 0) else 0) else 0) s.val from
      Finset.sum_congr rfl fun s _ => by
        have hs := s.isLt
        by_cases h1 : s ≤ t <;> by_cases h2 : p s <;> simp [h1, h2, Fin.le_def.symm]]
  rw [Fin.sum_univ_eq_sum_range (fun n : ℕ => if n ≤ t.val then (if h : n < 8192 then (if p ⟨n, h⟩ then 1 else 0) else 0) else 0) 8192,
    ← Finset.sum_filter]
  refine Finset.sum_congr (Finset.ext fun n => ?_) fun _ _ => rfl
  simp only [Finset.mem_range, Finset.mem_filter]
  omega

/-- The running count of a choice, in the column of an expert: as words. -/
theorem column_counts (x : IVec ⟨2, ![8192, 64]⟩ 32) (e : Fin 64) (p : Fin 8192 → Prop) [DecidablePred p]
    (hx : ∀ s : Fin 8192, x (ix2 s e) = BitVec.ofNat 32 (if p s then 1 else 0))
    (init : IVec ⟨0, ![]⟩ 32) (hinit : init ix0 = 0#32)
    (h : (⟨2, ![8192, 64]⟩ : Shape).ReduceWindows (![8192, 1] : Fin 2 → Nat) ![1, 1] ![8191, 0] ![0, 0] ⟨2, ![8192, 64]⟩)
    (hu : 0 < (⟨0, ![]⟩ : Shape).numel) (t : Fin 8192) :
    Host.reduceWindow IntOp.addi ![8192, 1] ![1, 1] ![8191, 0] ![0, 0] x init h hu (ix2 t e)
      = BitVec.ofNat 32 (Finset.univ.filter fun s => s ≤ t ∧ p s).card := by
  rw [column_sums x e (fun n => if h : n < 8192 then (if p ⟨n, h⟩ then 1 else 0) else 0)
    (fun s => by rw [hx s, dif_pos s.isLt]) init hinit h hu t, count_tokens p t]

end Cert.Gate

end
-- ==== Proof.RefGate.lean ====
/-
  THE REFERENCE'S GATE: its scores, its two softmaxes, its sorted choices, its running counts and the gate array that
  multiplies the experts' results, each read at an entry and named by the functions of `Model`.
-/
module

public import proofs.«01_k».proof.Proof.Problem
public import proofs.«01_k».proof.Proof.Words
public import proofs.«01_k».proof.Proof.TopTwo
public import proofs.«01_k».proof.Proof.Counts
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem
open Cert.Gate

namespace Cert.ReferenceIdeal.Read

variable (x : (⟨S2x4096x768, .f32⟩ : BufTy).Contents (Elt Ideal)) (g : (⟨S64x768, .f32⟩ : BufTy).Contents (Elt Ideal))
  (u : (⟨S8192, .f32⟩ : BufTy).Contents (Elt Ideal))

/-- The scores. -/
theorem scores_at (s : Fin 8192) (e : Fin 64) : val_main_v2 x g (ix2 s e) = (problem x g u).L s e := by
  pointwise [val_main_v2, val_main_v1, val_main_v0]
  rfl

/-- Division by the temperature is multiplication by its inverse. -/
theorem div_temp (a : EReal) : Ideal.div a (Ideal.ofBits .f32 0x3FD47AE1#32) = a * invTemp := by
  rw [word_temp, Ideal.div, if_neg (by norm_num), ← EReal.coe_inv, invTemp]
  norm_num

/-- The scores over the temperature. -/
theorem cool_at (s : Fin 8192) (e : Fin 64) : val_main_v4 x g (ix2 s e) = cool ((problem x g u).L s) e := by
  pointwise [val_main_v4, val_main_v3, val_main_cst]
  rw [scores_at x g u]
  exact div_temp _

/-- The greatest score as a fold from minus infinity. -/
theorem fold_top (l : Row) : Finset.univ.fold max (Ideal.ofBits .f32 0xFF800000#32) l = top l := by
  rw [word_neg_inf]
  rfl

/-- The softmax of the scores over the temperature. -/
theorem pz_at (s : Fin 8192) (e : Fin 64) : val_main_v15 x g (ix2 s e) = pz ((problem x g u).L s) e := by
  pointwise [val_main_v15, val_main_v14, val_main_v13, val_main_v12, val_main_v11, val_main_v10, val_main_v9, val_main_v8,
    val_main_v7, val_main_v6, val_main_v5, val_main_cst_0, val_main_cst_1, val_main_cst_2]
  simp only [cool_at x g u, fold_top, word_neg_inf, max_bot_left]
  rfl

/-- The log-sum-exp of the scores. -/
theorem lse_at (s : Fin 8192) : val_main_v39 x g (ix1 s) = lse ((problem x g u).L s) := by
  pointwise [val_main_v39, val_main_v38, val_main_v37, val_main_v36, val_main_v35, val_main_v34, val_main_v33, val_main_v32,
    val_main_cst_13, val_main_cst_14]
  simp only [scores_at x g u, fold_top]
  exact add_comm _ _

/-- The softmax of the scores. -/
theorem soft_at (s : Fin 8192) (e : Fin 64) : val_main_v54 x g (ix2 s e) = soft ((problem x g u).L s) e := by
  pointwise [val_main_v54, val_main_v53, val_main_v52, val_main_v51, val_main_v50, val_main_v49, val_main_v48, val_main_v47,
    val_main_v46, val_main_v45, val_main_v44, val_main_cst_18, val_main_cst_19, val_main_cst_20]
  simp only [scores_at x g u, fold_top, word_neg_inf, max_bot_left]
  rfl

/-! ## The choices, where all scores are real -/

/-- Every token's scores are real numbers. -/
def Real (I : Inputs) : Prop := ∀ s, Finite (I.L s)

/-- A word of an expert against the word of another. -/
theorem eq_word (a e : Fin 64) : IntOp.cmpi .eq (BitVec.ofNat 32 a.val) (BitVec.ofNat 32 e.val) = BitVec.ofBool (decide (e = a)) := by
  show BitVec.ofBool (BitVec.ofNat 32 a.val == BitVec.ofNat 32 e.val) = _
  by_cases h : e = a
  · subst h
    simp
  · have hne : BitVec.ofNat 32 a.val ≠ BitVec.ofNat 32 e.val := fun hw => h (Fin.ext (by
      have := congrArg BitVec.toNat hw
      simp only [BitVec.toNat_ofNat] at this
      omega))
    rw [beq_eq_false_iff_ne.mpr hne, decide_eq_false h]

/-- A count against the capacity, as words. -/
theorem within_word {n : ℕ} (h : n ≤ 8192) : IntOp.cmpi .sle (BitVec.ofNat 32 n) 256#32 = BitVec.ofBool (decide (n ≤ 256)) := by
  show BitVec.ofBool ((BitVec.ofNat 32 n).sle 256#32) = _
  refine congrArg BitVec.ofBool ?_
  have hn : (BitVec.ofNat 32 n).toNat = n := by rw [BitVec.toNat_ofNat]; omega
  rw [BitVec.sle, BitVec.toInt_eq_toNat_of_lt (by rw [hn]; omega), hn]
  exact decide_eq_decide.mpr ⟨fun h => by have h' : (n : Int) ≤ 256 := h; omega, fun h => by show (n : Int) ≤ 256; omega⟩

/-- The running count of a choice at the token that made it is its rank. -/
theorem count_rank (a : Fin 8192 → Fin 64) (t : Fin 8192) (e : Fin 64) (h : e = a t) :
    (Finset.univ.filter fun s => s ≤ t ∧ e = a s).card = rank a t := by
  subst h
  unfold rank
  congr 1
  ext s
  simp [eq_comm]

theorem count_le (a : Fin 8192 → Fin 64) (t : Fin 8192) (e : Fin 64) : (Finset.univ.filter fun s => s ≤ t ∧ e = a s).card ≤ 8192 :=
  (Finset.card_filter_le _ _).trans (by simp)

section choices

variable (hreal : Real (problem x g u))

include hreal

/-- What the sort of token `s`'s softmax returns. -/
theorem sorted_at (s : Fin 8192) :
    (val_main_values x g (ix2 s (0 : Fin 2)) : EReal) = soft ((problem x g u).L s) ((problem x g u).e1 s)
      ∧ (val_main_values x g (ix2 s (1 : Fin 2)) : EReal) = soft ((problem x g u).L s) ((problem x g u).e2 s)
      ∧ val_main_indices x g (ix2 s (0 : Fin 2)) = BitVec.ofNat 32 ((problem x g u).e1 s).val
      ∧ val_main_indices x g (ix2 s (1 : Fin 2)) = BitVec.ofNat 32 ((problem x g u).e2 s).val := by
  obtain ⟨h0, h1, h2, h3⟩ := top_two (val_main_v54 x g) s (soft ((problem x g u).L s)) _
    (fun e => soft_at x g u s e) (hreal s).soft_ne_bot
  rw [(hreal s).best_soft] at h0 h2
  rw [(hreal s).second_soft] at h1 h3
  exact ⟨h0, h1, h2, h3⟩

/-- The one-hot of the first choice. -/
theorem first_at (s : Fin 8192) (e : Fin 64) :
    val_main_v66 x g (ix2 s e) = BitVec.setWidth 32 (BitVec.ofBool (decide (e = (problem x g u).e1 s))) := by
  pointwise [val_main_v66, val_main_call0_v4, val_main_call0_v3, val_main_call0_v2, val_main_call0_v1, val_main_call0_v0,
    val_main_v60, val_main_v59]
  rw [(sorted_at x g u hreal s).2.2.1]
  exact congrArg (BitVec.setWidth 32) (eq_word _ _)

/-- The one-hot of the second choice. -/
theorem second_at (s : Fin 8192) (e : Fin 64) :
    val_main_call2_v4 x g (ix2 s e) = BitVec.ofBool (decide (e = (problem x g u).e2 s)) := by
  pointwise [val_main_call2_v4, val_main_call2_v3, val_main_call2_v2, val_main_call2_v1, val_main_call2_v0,
    val_main_v62, val_main_v61]
  rw [(sorted_at x g u hreal s).2.2.2]
  exact eq_word _ _

theorem second_word_at (s : Fin 8192) (e : Fin 64) :
    val_main_v86 x g (ix2 s e) = BitVec.setWidth 32 (BitVec.ofBool (decide (e = (problem x g u).e2 s))) := by
  pointwise [val_main_v86]
  rw [second_at x g u hreal]

/-- The running count of the first choices. -/
theorem count1_at (t : Fin 8192) (e : Fin 64) :
    val_main_v67 x g (ix2 t e) = BitVec.ofNat 32 (Finset.univ.filter fun s => s ≤ t ∧ e = (problem x g u).e1 s).card := by
  refine column_counts (val_main_v66 x g) e (fun s => e = (problem x g u).e1 s) (fun s => ?_) _ rfl _ _ t
  rw [first_at x g u hreal]
  by_cases h : e = (problem x g u).e1 s <;> simp [h]

/-- The running count of the second choices. -/
theorem count2_at (t : Fin 8192) (e : Fin 64) :
    val_main_v87 x g (ix2 t e) = BitVec.ofNat 32 (Finset.univ.filter fun s => s ≤ t ∧ e = (problem x g u).e2 s).card := by
  refine column_counts (val_main_v86 x g) e (fun s => e = (problem x g u).e2 s) (fun s => ?_) _ rfl _ _ t
  rw [second_word_at x g u hreal]
  by_cases h : e = (problem x g u).e2 s <;> simp [h]

/-- The first half of the gate. -/
theorem gate1_at (s : Fin 8192) (e : Fin 64) :
    val_main_v75 x g (ix2 s e) = hot ((problem x g u).e1 s) e * (problem x g u).w1 s := by
  pointwise [val_main_v75, val_main_v74, val_main_v73, val_main_v72, val_main_v71, val_main_v70, val_main_v69, val_main_v68,
    val_main_v64, val_main_v63, val_main_v56, val_main_v55, val_main_v58, val_main_v57]
  rw [(sorted_at x g u hreal s).1, (sorted_at x g u hreal s).2.1, first_at x g u hreal, count1_at x g u hreal, sitofp_bit,
    show val_main_c (F := Ideal) ix0 = 256#32 from rfl, within_word (count_le _ _ _), uitofp_bit]
  by_cases he : e = (problem x g u).e1 s
  · rw [count_rank _ _ _ he, if_pos he, mul_one, hot, if_pos he, one_mul]
    unfold Inputs.w1
    by_cases hk : rank (problem x g u).e1 s ≤ 256
    · rw [if_pos hk, if_pos (show (problem x g u).keep1 s from hk), mul_one]
      rfl
    · rw [if_neg hk, if_neg (show ¬ (problem x g u).keep1 s from hk), mul_zero]
  · rw [if_neg he, mul_zero, zero_mul, hot, if_neg he, zero_mul]

theorem gate2_at (s : Fin 8192) (e : Fin 64) :
    val_main_v101 x g u (ix2 s e) = hot ((problem x g u).e2 s) e * (problem x g u).w2 s := by
  pointwise [val_main_v101, val_main_v100, val_main_v99, val_main_v98, val_main_v97, val_main_v96, val_main_v95, val_main_v94,
    val_main_v93, val_main_v92, val_main_v91, val_main_v90, val_main_v89, val_main_v88, val_main_v86, val_main_v65, val_main_v63,
    val_main_v56, val_main_v55, val_main_v58, val_main_v57]
  rw [(sorted_at x g u hreal s).1, (sorted_at x g u hreal s).2.1, second_at x g u hreal, count2_at x g u hreal, sitofp_bit,
    show val_main_c_27 (F := Ideal) ix0 = 256#32 from rfl, within_word (count_le _ _ _), andi_decide, uitofp_bit,
    show (val_main_cst_28 (F := Ideal) ix0 : EReal) = 2 from word_2]
  by_cases he : e = (problem x g u).e2 s
  · rw [count_rank _ _ _ he, if_pos he, mul_one, hot, if_pos he, one_mul]
    unfold Inputs.w2
    by_cases hk : rank (problem x g u).e2 s ≤ 256 ∧ u (ix1 s) < 2 * n2 ((problem x g u).L s)
    · rw [if_pos (show (problem x g u).keep2 s from hk)]
      refine (congrArg (fun a : EReal => n2 ((problem x g u).L s) * a) (if_pos hk)).trans (mul_one _)
    · rw [if_neg (show ¬ (problem x g u).keep2 s from hk)]
      refine (congrArg (fun a : EReal => n2 ((problem x g u).L s) * a) (if_neg hk)).trans (mul_zero _)
  · rw [if_neg he, mul_zero, zero_mul, hot, if_neg he, zero_mul]

/-- The gate. -/
theorem gate_at (s : Fin 8192) (e : Fin 64) : val_main_v102 x g u (ix2 s e) = (problem x g u).gate s e :=
  congrArg₂ (fun a b : EReal => a + b) (gate1_at x g u hreal s e) (gate2_at x g u hreal s e)

end choices

end Cert.ReferenceIdeal.Read

end
-- ==== Proof.RefAux.lean ====
/-
  THE REFERENCE'S AUXILIARY LOSS: its second result, named by the functions of `Losses`.
-/
module

public import proofs.«01_k».proof.Proof.RefGate
public import proofs.«01_k».proof.Proof.Losses

@[expose] public section

set_option maxRecDepth 16384

noncomputable section

open Idealize.ShloMosaic Idealize.ShloMosaic.TcCoe Idealize.SL.Sem
open Cert.Gate

namespace Cert.ReferenceIdeal.Read

variable (x : (⟨S2x4096x768, .f32⟩ : BufTy).Contents (Elt Ideal)) (g : (⟨S64x768, .f32⟩ : BufTy).Contents (Elt Ideal))
  (u : (⟨S8192, .f32⟩ : BufTy).Contents (Elt Ideal))

theorem sharpness_at : val_main_v31 x g ix0 = sharpness (problem x g u) := by
  pointwise [val_main_v31, val_main_v30, val_main_v29, val_main_v28, val_main_v27, val_main_v26, val_main_v25, val_main_v24,
    val_main_v23, val_main_v22, val_main_v21, val_main_v20, val_main_v19, val_main_v18, val_main_v17, val_main_v16, val_main_cst_3,
    val_main_cst_4, val_main_cst_5, val_main_cst_6, val_main_cst_7, val_main_cst_8, val_main_cst_9, val_main_cst_10, val_main_cst_11,
    val_main_cst_12]
  simp only [pz_at x g u]
  rfl

theorem zTerm_at : val_main_v43 x g ix0 = zTerm (problem x g u) := by
  pointwise [val_main_v43, val_main_v42, val_main_v41, val_main_v40, val_main_cst_15, val_main_cst_16, val_main_cst_17]
  simp only [lse_at x g u]
  rfl

theorem load_at (hreal : Real (problem x g u)) : val_main_v85 x g ix0 = loadTerm (problem x g u) := by
  pointwise [val_main_v85, val_main_v84, val_main_v83, val_main_v82, val_main_v81, val_main_v80, val_main_v79, val_main_v78,
    val_main_v77, val_main_v76, val_main_cst_21, val_main_cst_22, val_main_cst_23, val_main_cst_24, val_main_cst_25, val_main_cst_26]
  simp only [first_at x g u hreal, soft_at x g u, sitofp_bit]
  rfl

theorem importance_at (hreal : Real (problem x g u)) : val_main_v109 x g u ix0 = importance (problem x g u) := by
  pointwise [val_main_v109, val_main_v108, val_main_v107, val_main_v106, val_main_v105, val_main_v104, val_main_call4_call0_v0,
    val_main_call4_cst_4, val_main_call4_v11, val_main_call4_cst_3, val_main_call4_v10, val_main_call4_v9, val_main_call4_cst_2,
    val_main_call4_v8, val_main_call4_cst_1, val_main_call4_v7, val_main_c_30, val_main_call4_v6, val_main_call4_v5, val_main_call4_v4,
    val_main_call4_v3, val_main_call4_v2, val_main_call4_cst_0, val_main_call4_v1, val_main_call4_v0, val_main_call4_cst, val_main_v103,
    val_main_cst_29, val_main_cst_31, val_main_cst_32, val_main_cst_33]
  rw [if_pos count_pos]
  simp only [gate_at x g u hreal]
  rfl

/-- The second result. -/
theorem aux_at (hreal : Real (problem x g u)) : val_main_v112 x g u = fun _ => auxLoss (problem x g u) := by
  funext i
  obtain rfl : i = ix0 := funext fun a => a.elim0
  refine congrArg₂ (fun a b : EReal => a + b) (congrArg₂ (fun a b : EReal => a + b)
    (congrArg₂ (fun a b : EReal => a + b) (sharpness_at x g u) (zTerm_at x g u)) (load_at x g u hreal)) (importance_at x g u hreal)

end Cert.ReferenceIdeal.Read

end
-- ==== Proof.RefOut.lean ====
/-
  THE REFERENCE'S FIRST RESULT: every token's row is the sum over the experts of the expert's two layers on it, weighted
  by the gate, which is the two chosen experts' layers with their weights.
-/
module

public import proofs.«01_k».proof.Proof.RefGate
public import proofs.«01_k».proof.Proof.Mixed
public import proofs.«01_k».proof.Proof.Ffn

@[expose] public section

set_option maxRecDepth 16384

noncomputable section

open Idealize.ShloMosaic Idealize.ShloMosaic.TcCoe Idealize.SL.Sem
open Cert.Gate

namespace Cert.Gate

/-- The activation with its cube associated to the left. -/
theorem gelu_cubed (h : EReal) : h * (Ideal.ofBits .f32 0x3F000000#32
    * (1 + Ideal.tanh (Ideal.ofBits .f32 0x3F4C422A#32 * (h + Ideal.ofBits .f32 0x3D372713#32 * (h * h * h))))) = gelu h := by
  unfold gelu
  rw [mul_assoc h h h]
  rfl

end Cert.Gate

namespace Cert.ReferenceIdeal.Read

variable (x : (⟨S2x4096x768, .f32⟩ : BufTy).Contents (Elt Ideal)) (g : (⟨S64x768, .f32⟩ : BufTy).Contents (Elt Ideal))
  (u : (⟨S8192, .f32⟩ : BufTy).Contents (Elt Ideal))
  (x2 : (⟨S64x3072x768, .f32⟩ : BufTy).Contents (Elt Ideal)) (x3 : (⟨S64x3072, .f32⟩ : BufTy).Contents (Elt Ideal))
  (x4 : (⟨S64x768x3072, .f32⟩ : BufTy).Contents (Elt Ideal)) (x5 : (⟨S64x768, .f32⟩ : BufTy).Contents (Elt Ideal))

/-- The first layer before its activation, on the row of a token. -/
def hidden (e : Fin 64) (s : Fin 8192) (f : Fin 3072) : EReal := (∑ k, row x s k * x2 (ix3 e f k) : EReal) + (x3 (ix2 e f) : EReal)

theorem hidden_at (e : Fin 64) (s : Fin 8192) (f : Fin 3072) : val_main_v117 x x2 x3 (ix3 e s f) = hidden x x2 x3 e s f := by
  pointwise [val_main_v117, val_main_v116, val_main_v115, val_main_v114, val_main_v113, val_main_v0]
  refine congrArg (fun a : EReal => a + x3 (ix2 e f)) (Finset.sum_congr rfl fun k _ => ?_)
  exact mul_comm _ _

/-- The activation, over the first layer's value. -/
theorem gelu_read (i : S64x8192x3072.Idx) : val_main_v130 x x2 x3 i = gelu (val_main_v117 x x2 x3 i) := by
  refine Eq.trans ?_ (gelu_cubed _)
  pointwise [val_main_v130, val_main_v129, val_main_v128, val_main_v127, val_main_v126, val_main_v125, val_main_v124, val_main_v123,
    val_main_v122, val_main_v121, val_main_v120, val_main_v119, val_main_v118, val_main_cst_34, val_main_cst_35, val_main_cst_36,
    val_main_cst_37]

/-- The activation. -/
theorem gelu_at (e : Fin 64) (s : Fin 8192) (f : Fin 3072) :
    val_main_v130 x x2 x3 (ix3 e s f) = gelu (hidden x x2 x3 e s f) :=
  (gelu_read x x2 x3 _).trans (congrArg gelu (hidden_at x x2 x3 e s f))

/-- An expert's result. -/
theorem expert_at (e : Fin 64) (s : Fin 8192) (d : Fin 768) :
    val_main_v134 x x2 x3 x4 x5 (ix3 e s d) = expertOf x2 x3 x4 x5 e (row x s) d := by
  pointwise [val_main_v134, val_main_v133, val_main_v132, val_main_v131]
  simp only [gelu_at]
  rfl

/-- The first result. -/
theorem out_at (hreal : Real (problem x g u)) (b : Fin 2) (r : Fin 4096) (d : Fin 768) :
    val_main_v140 x g x2 x3 x4 x5 u (ix3 b r d) = mixed (problem x g u) x x2 x3 x4 x5 ⟨b.val * 4096 + r.val, by omega⟩ d := by
  pointwise [val_main_v140, val_main_v139, val_main_v138, val_main_v137, val_main_v136, val_main_v135, val_main_cst_38]
  simp only [expert_at, gate_at x g u hreal]
  exact sum_gate_eq x x2 x3 x4 x5 _ d (hreal _)

end Cert.ReferenceIdeal.Read

end
-- ==== Proof.lean ====
/-
  THE PROOF OF `Cert.Claim`.

  Both programs solve one gate problem (Proof/Model.lean, Proof/Problem.lean). The kernel's two launches and the host
  operations between and after them are followed in Proof/Gate*.lean, Proof/Ffn.lean, Proof/KernelAux.lean,
  Proof/Dispatch.lean and Proof/KernelOut.lean; the reference in Proof/Ref*.lean. Where the scores are real, which the
  precondition gives (Proof/Precondition.lean), the two results are `mixed` and `auxLoss` of the problem on either side.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Precondition
public import proofs.«01_k».proof.Proof.RunResults
public import proofs.«01_k».proof.Proof.KernelAux
public import proofs.«01_k».proof.Proof.KernelOut
public import proofs.«01_k».proof.Proof.RefAux
public import proofs.«01_k».proof.Proof.RefOut
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.Gate

/-- The first result over the arguments. -/
def outOf (x : Vec Ideal ⟨3, ![2, 4096, 768]⟩ .f32) (g : Vec Ideal ⟨2, ![64, 768]⟩ .f32) (fw : Vec Ideal ⟨3, ![64, 3072, 768]⟩ .f32)
    (fb : Vec Ideal ⟨2, ![64, 3072]⟩ .f32) (pw : Vec Ideal ⟨3, ![64, 768, 3072]⟩ .f32) (pb : Vec Ideal ⟨2, ![64, 768]⟩ .f32)
    (u : Vec Ideal ⟨1, ![8192]⟩ .f32) : Vec Ideal ⟨3, ![2, 4096, 768]⟩ .f32 := fun i =>
  mixed (problem x g u) x fw fb pw pb
    ⟨(i 0).val * 4096 + (i 1).val, by
      have h0 : (i 0).val < 2 := (i 0).isLt
      have h1 : (i 1).val < 4096 := (i 1).isLt
      omega⟩ (i 2)

theorem kernel_out (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W11 m ρ c Cert.KernelIdeal.main_v114
      = outOf (Cert.KernelIdeal.Gen.W0 m ρ c Cert.KernelIdeal.main_arg0) (Cert.KernelIdeal.Gen.W0 m ρ c Cert.KernelIdeal.main_arg1)
          (Cert.KernelIdeal.Gen.W0 m ρ c Cert.KernelIdeal.main_arg2) (Cert.KernelIdeal.Gen.W0 m ρ c Cert.KernelIdeal.main_arg3)
          (Cert.KernelIdeal.Gen.W0 m ρ c Cert.KernelIdeal.main_arg4) (Cert.KernelIdeal.Gen.W0 m ρ c Cert.KernelIdeal.main_arg5)
          (Cert.KernelIdeal.Gen.W0 m ρ c Cert.KernelIdeal.main_arg6) := by
  funext i
  obtain ⟨b, s, d, rfl⟩ : ∃ (b : Fin 2) (s : Fin 4096) (d : Fin 768), i = ix3 b s d := ⟨i 0, i 1, i 2, eq_ix3 i⟩
  exact Cert.KernelIdeal.Gen.W11_out m ρ c b s d

theorem reference_out (x : Vec Ideal ⟨3, ![2, 4096, 768]⟩ .f32) (g : Vec Ideal ⟨2, ![64, 768]⟩ .f32)
    (fw : Vec Ideal ⟨3, ![64, 3072, 768]⟩ .f32) (fb : Vec Ideal ⟨2, ![64, 3072]⟩ .f32) (pw : Vec Ideal ⟨3, ![64, 768, 3072]⟩ .f32)
    (pb : Vec Ideal ⟨2, ![64, 768]⟩ .f32) (u : Vec Ideal ⟨1, ![8192]⟩ .f32) (h : Cert.ReferenceIdeal.Read.Real (problem x g u)) :
    Cert.ReferenceIdeal.Read.val_main_v140 (F := Ideal) x g fw fb pw pb u = outOf x g fw fb pw pb u := by
  funext i
  obtain ⟨b, s, d, rfl⟩ : ∃ (b : Fin 2) (s : Fin 4096) (d : Fin 768), i = ix3 b s d := ⟨i 0, i 1, i 2, eq_ix3 i⟩
  exact Cert.ReferenceIdeal.Read.out_at x g u fw fb pw pb h b s d

/-- The reference's first result over arguments equal to given ones. -/
theorem stage_out {x x' : Vec Ideal ⟨3, ![2, 4096, 768]⟩ .f32} {g g' : Vec Ideal ⟨2, ![64, 768]⟩ .f32}
    {fw fw' : Vec Ideal ⟨3, ![64, 3072, 768]⟩ .f32} {fb fb' : Vec Ideal ⟨2, ![64, 3072]⟩ .f32}
    {pw pw' : Vec Ideal ⟨3, ![64, 768, 3072]⟩ .f32} {pb pb' : Vec Ideal ⟨2, ![64, 768]⟩ .f32} {u u' : Vec Ideal ⟨1, ![8192]⟩ .f32}
    (h0 : x' = x) (h1 : g' = g) (h2 : fw' = fw) (h3 : fb' = fb) (h4 : pw' = pw) (h5 : pb' = pb) (h6 : u' = u)
    (h : Cert.ReferenceIdeal.Read.Real (problem x g u)) :
    Cert.ReferenceIdeal.Read.val_main_v140 (F := Ideal) x' g' fw' fb' pw' pb' u' = outOf x g fw fb pw pb u := by
  rw [h0, h1, h2, h3, h4, h5, h6]
  exact reference_out x g fw fb pw pb u h

/-- The reference's second result over arguments equal to given ones. -/
theorem stage_aux {x x' : Vec Ideal ⟨3, ![2, 4096, 768]⟩ .f32} {g g' : Vec Ideal ⟨2, ![64, 768]⟩ .f32} {u u' : Vec Ideal ⟨1, ![8192]⟩ .f32}
    (h0 : x' = x) (h1 : g' = g) (h6 : u' = u) (h : Cert.ReferenceIdeal.Read.Real (problem x g u)) :
    Cert.ReferenceIdeal.Read.val_main_v112 (F := Ideal) x' g' u' = fun _ => auxLoss (problem x g u) := by
  rw [h0, h1, h6]
  exact Cert.ReferenceIdeal.Read.aux_at x g u h

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_pre [Cert.Pre_finite_gate.Facts] : Cert.quiescent_ReferenceIdeal_pre_finite_gate := fun m ρ _ =>
  frame_reference m ρ trivial

theorem preserves : Cert.preserves_Kernel_KernelIdeal :=
  ⟨IdealRules.named_const.statement Cert.KernelIdeal.κ "inv_temp" .f32 0x3F1A3785#32 ((8388608 / 13925089 : ℝ) : EReal) rfl,
    IdealRules.named_const.statement Cert.KernelIdeal.κ "mask" .f32 0xF149F2CA#32 ⊥ rfl⟩

theorem algebraic [Cert.Pre_finite_gate.Facts] : Cert.algebraic_KernelIdeal_ReferenceIdeal_pre_finite_gate := by
  intro m ρ m' ρ' hpre hagree
  refine ⟨fun c => Cert.KernelIdeal.Gen.W11 m ρ c Cert.KernelIdeal.main_v114, fun c => Cert.KernelIdeal.Gen.W11 m ρ c Cert.KernelIdeal.main_v42,
    (θ_run Cert.KernelIdeal.defs _ _).mono (fun r h => h.1) (Cert.KernelIdeal.Gen.run_results m ρ), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hx, hg⟩ := Cert.Pre_finite_gate.real_entries (hpre c)
    obtain ⟨h0, h1, h2, h3, h4, h5, h6⟩ := hagree c
    refine (Cert.ReferenceIdeal.Read.val_main_v140_eq (F := Ideal) (StableHlo.launchContents m' c)).trans ?_
    refine Eq.trans ?_ (kernel_out m ρ c).symm
    exact stage_out h0 h1 h2 h3 h4 h5 h6 (finite_scores _ hx hg)
  · obtain ⟨hx, hg⟩ := Cert.Pre_finite_gate.real_entries (hpre c)
    obtain ⟨h0, h1, -, -, -, -, h6⟩ := hagree c
    refine (Cert.ReferenceIdeal.Read.val_main_v112_eq (F := Ideal) (StableHlo.launchContents m' c)).trans ?_
    refine Eq.trans ?_ (Cert.KernelIdeal.Gen.W11_aux m ρ c).symm
    exact stage_aux h0 h1 h6 (finite_scores _ hx hg)

theorem claim : Cert.Claim :=
  ⟨Cert.Kernel.Gen.facts, Cert.KernelIdeal.Gen.facts, Cert.ReferenceIdeal.Gen.facts, Cert.Pre_finite_gate.facts,
    fun m ρ _ => Cert.Kernel.Gen.frame m ρ, fun m ρ _ => Cert.KernelIdeal.Gen.frame m ρ, fun m ρ _ => Cert.KernelIdeal.Gen.frame m ρ,
    frame_reference, @frame_reference_pre Cert.Pre_finite_gate.facts, preserves, @algebraic Cert.Pre_finite_gate.facts⟩

end Cert.Proof

end
